-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S320000 32) (main_arg2 : FVec F S128x128 .f32) (main_arg3 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![0] · slices_S320000_S319999_0) main_arg1
  let main_v7 : IVec S319999 32 := (extractStridedSlice S319999 ![1] · slices_S320000_S319999_1) main_arg1
  let main_v8 : IVec S319999 1 := cmpi .sle main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  main_v10
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S100 : Shape := ⟨1, ![100]⟩
abbrev S_ : Shape := ⟨0, ![]⟩
abbrev S10x10 : Shape := ⟨2, ![10, 10]⟩
abbrev S10 : Shape := ⟨1, ![10]⟩
abbrev S100x1 : Shape := ⟨2, ![100, 1]⟩
abbrev S100x2 : Shape := ⟨2, ![100, 2]⟩
abbrev S200 : Shape := ⟨1, ![200]⟩
abbrev S210 : Shape := ⟨1, ![210]⟩
abbrev S10x10x3200 : Shape := ⟨3, ![10, 10, 3200]⟩
abbrev S1x128 : Shape := ⟨2, ![1, 128]⟩
abbrev S10000x128 : Shape := ⟨2, ![10000, 128]⟩
abbrev S1x10x3200 : Shape := ⟨3, ![1, 10, 3200]⟩
abbrev S32000x128 : Shape := ⟨2, ![32000, 128]⟩
abbrev S3200x128 : Shape := ⟨2, ![3200, 128]⟩
abbrev S1x1x3200 : Shape := ⟨3, ![1, 1, 3200]⟩
abbrev S1x3200 : Shape := ⟨2, ![1, 3200]⟩
abbrev S1 : Shape := ⟨1, ![1]⟩
abbrev S128x3200 : Shape := ⟨2, ![128, 3200]⟩
abbrev S1x1x1 : Shape := ⟨3, ![1, 1, 1]⟩

abbrev nBuf : Space → Nat
  | .hbm => 45
  | .vmem => 7
  | .smem => 1
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S100, .i32⟩
  | .hbm, ⟨5, _⟩ => ⟨S_, .i32⟩
  | .hbm, ⟨6, _⟩ => ⟨S_, .i32⟩
  | .hbm, ⟨7, _⟩ => ⟨S100, .i32⟩
  | .hbm, ⟨8, _⟩ => ⟨S100, .i32⟩
  | .hbm, ⟨9, _⟩ => ⟨S100, .i32⟩
  | .hbm, ⟨10, _⟩ => ⟨S_, .i32⟩
  | .hbm, ⟨11, _⟩ => ⟨S100, .i32⟩
  | .hbm, ⟨12, _⟩ => ⟨S100, .i1⟩
  | .hbm, ⟨13, _⟩ => ⟨S100, .i32⟩
  | .hbm, ⟨14, _⟩ => ⟨S100, .i32⟩
  | .hbm, ⟨15, _⟩ => ⟨S_, .i32⟩
  | .hbm, ⟨16, _⟩ => ⟨S100, .i32⟩
  | .hbm, ⟨17, _⟩ => ⟨S100, .i1⟩
  | .hbm, ⟨18, _⟩ => ⟨S100, .i1⟩
  | .hbm, ⟨19, _⟩ => ⟨S_, .i32⟩
  | .hbm, ⟨20, _⟩ => ⟨S100, .i32⟩
  | .hbm, ⟨21, _⟩ => ⟨S100, .i32⟩
  | .hbm, ⟨22, _⟩ => ⟨S100, .i32⟩
  | .hbm, ⟨23, _⟩ => ⟨S_, .i32⟩
  | .hbm, ⟨24, _⟩ => ⟨S100, .i32⟩
  | .hbm, ⟨25, _⟩ => ⟨S100, .i32⟩
  | .hbm, ⟨26, _⟩ => ⟨S_, .i32⟩
  | .hbm, ⟨27, _⟩ => ⟨S100, .i32⟩
  | .hbm, ⟨28, _⟩ => ⟨S100, .i32⟩
  | .hbm, ⟨29, _⟩ => ⟨S100, .i32⟩
  | .hbm, ⟨30, _⟩ => ⟨S_, .i32⟩
  | .hbm, ⟨31, _⟩ => ⟨S100, .i32⟩
  | .hbm, ⟨32, _⟩ => ⟨S100, .i32⟩
  | .hbm, ⟨33, _⟩ => ⟨S100, .i1⟩
  | .hbm, ⟨34, _⟩ => ⟨S10x10, .i1⟩
  | .hbm, ⟨35, _⟩ => ⟨S_, .i1⟩
  | .hbm, ⟨36, _⟩ => ⟨S10, .i1⟩
  | .hbm, ⟨37, _⟩ => ⟨S10, .i32⟩
  | .hbm, ⟨38, _⟩ => ⟨S100x1, .i32⟩
  | .hbm, ⟨39, _⟩ => ⟨S100x1, .i32⟩
  | .hbm, ⟨40, _⟩ => ⟨S100x2, .i32⟩
  | .hbm, ⟨41, _⟩ => ⟨S200, .i32⟩
  | .hbm, ⟨42, _⟩ => ⟨S10x10x3200, .i32⟩
  | .hbm, ⟨43, _⟩ => ⟨S1x128, .f32⟩
  | .hbm, ⟨44, _⟩ => ⟨S10000x128, .f32⟩
  | .local _ .vmem, ⟨0, _⟩ => ⟨S1x10x3200, .i32⟩
  | .local _ .vmem, ⟨1, _⟩ => ⟨S1x10x3200, .i32⟩
  | .local _ .vmem, ⟨2, _⟩ => ⟨S32000x128, .f32⟩
  | .local _ .vmem, ⟨3, _⟩ => ⟨S32000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .smem, ⟨0, _⟩ => ⟨S210, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let c10_i32 : BitVec 32 := 10#32
  let v14 : BitVec 32 := Scalar.muli arg0 c10_i32
  let c0_i32_10 : BitVec 32 := 0#32
  let v15 : BitVec 32 := Scalar.addi v14 c0_i32_10
  let v16 : BitVec 32 := Scalar.muli c2_i32 v15
  let v17 : Index := Scalar.indexCast v16
  ![v17.toNat]
def k0_off2 (v18 : BitVec 32) : Fin 2 → Nat :=
  let v28 : Index := Scalar.indexCast v18
  let c0_14 : Index := 0#32
  ![v28.toNat, 0]

def k0_chk1 (v18 : BitVec 32) : Prop :=
  (∀ a, (k0_off2 v18) a + S128x128.size a ≤ S10000x128.size a)
theorem k0_off2_inb : ∀ (v18 : BitVec 32) (k0_hw1 : k0_chk1 v18), ∀ a, (k0_off2 v18) a + S128x128.size a ≤ S10000x128.size a := fun v18 k0_hw1 => k0_hw1

def k0_off3 (i : grid0.Coords) : Fin 1 → Nat :=
  let c2_i32_22 : BitVec 32 := 2#32
  let arg0 : BitVec 32 := BitVec.ofNat 32 (i 0).val
  let c10_i32_21 : BitVec 32 := 10#32
  let v42 : BitVec 32 := Scalar.muli arg0 c10_i32_21
  let c1_i32 : BitVec 32 := 1#32
  let v43 : BitVec 32 := Scalar.addi v42 c1_i32
  let v44 : BitVec 32 := Scalar.muli c2_i32_22 v43
  let v45 : Index := Scalar.indexCast v44
  ![v45.toNat]
def k0_off4 (v46 : BitVec 32) : Fin 2 → Nat :=
  let v56 : Index := Scalar.indexCast v46
  let c0_26 : Index := 0#32
  ![v56.toNat, 0]

def k0_chk2 (v46 : BitVec 32) : Prop :=
  (∀ a, (k0_off4 v46) a + S128x128.size a ≤ S10000x128.size a)
theorem k0_off4_inb : ∀ (v46 : BitVec 32) (k0_hw2 : k0_chk2 v46), ∀ a, (k0_off4 v46) a + S128x128.size a ≤ S10000x128.size a := fun v46 k0_hw2 => k0_hw2

def k0_off5 (i : grid0.Coords) : Fin 1 → Nat :=
  let c2_i32_35 : BitVec 32 := 2#32
  let arg0 : BitVec 32 := BitVec.ofNat 32 (i 0).val
  let c10_i32_33 : BitVec 32 := 10#32
  let v70 : BitVec 32 := Scalar.muli arg0 c10_i32_33
  let c2_i32_34 : BitVec 32 := 2#32
  let v71 : BitVec 32 := Scalar.addi v70 c2_i32_34
  let v72 : BitVec 32 := Scalar.muli c2_i32_35 v71
  let v73 : Index := Scalar.indexCast v72
  ![v73.toNat]
def k0_off6 (v74 : BitVec 32) : Fin 2 → Nat :=
  let v84 : Index := Scalar.indexCast v74
  let c0_39 : Index := 0#32
  ![v84.toNat, 0]

def k0_chk3 (v74 : BitVec 32) : Prop :=
  (∀ a, (k0_off6 v74) a + S128x128.size a ≤ S10000x128.size a)
theorem k0_off6_inb : ∀ (v74 : BitVec 32) (k0_hw3 : k0_chk3 v74), ∀ a, (k0_off6 v74) a + S128x128.size a ≤ S10000x128.size a := fun v74 k0_hw3 => k0_hw3

def k0_off7 (i : grid0.Coords) : Fin 1 → Nat :=
  let c2_i32_47 : BitVec 32 := 2#32
  let arg0 : BitVec 32 := BitVec.ofNat 32 (i 0).val
  let c10_i32_46 : BitVec 32 := 10#32
  let v98 : BitVec 32 := Scalar.muli arg0 c10_i32_46
  let c3_i32 : BitVec 32 := 3#32
  let v99 : BitVec 32 := Scalar.addi v98 c3_i32
  let v100 : BitVec 32 := Scalar.muli c2_i32_47 v99
  let v101 : Index := Scalar.indexCast v100
  ![v101.toNat]
def k0_off8 (v102 : BitVec 32) : Fin 2 → Nat :=
  let v112 : Index := Scalar.indexCast v102
  let c0_51 : Index := 0#32
  ![v112.toNat, 0]

def k0_chk4 (v102 : BitVec 32) : Prop :=
  (∀ a, (k0_off8 v102) a + S128x128.size a ≤ S10000x128.size a)
theorem k0_off8_inb : ∀ (v102 : BitVec 32) (k0_hw4 : k0_chk4 v102), ∀ a, (k0_off8 v102) a + S128x128.size a ≤ S10000x128.size a := fun v102 k0_hw4 => k0_hw4

def k0_off9 (i : grid0.Coords) : Fin 1 → Nat :=
  let c2_i32_59 : BitVec 32 := 2#32
  let arg0 : BitVec 32 := BitVec.ofNat 32 (i 0).val
  let c10_i32_58 : BitVec 32 := 10#32
  let v126 : BitVec 32 := Scalar.muli arg0 c10_i32_58
  let c4_i32 : BitVec 32 := 4#32
  let v127 : BitVec 32 := Scalar.addi v126 c4_i32
  let v128 : BitVec 32 := Scalar.muli c2_i32_59 v127
  let v129 : Index := Scalar.indexCast v128
  ![v129.toNat]
def k0_off10 (v130 : BitVec 32) : Fin 2 → Nat :=
  let v140 : Index := Scalar.indexCast v130
  let c0_63 : Index := 0#32
  ![v140.toNat, 0]

def k0_chk5 (v130 : BitVec 32) : Prop :=
  (∀ a, (k0_off10 v130) a + S128x128.size a ≤ S10000x128.size a)
theorem k0_off10_inb : ∀ (v130 : BitVec 32) (k0_hw5 : k0_chk5 v130), ∀ a, (k0_off10 v130) a + S128x128.size a ≤ S10000x128.size a := fun v130 k0_hw5 => k0_hw5

def k0_off11 (i : grid0.Coords) : Fin 1 → Nat :=
  let c2_i32_71 : BitVec 32 := 2#32
  let arg0 : BitVec 32 := BitVec.ofNat 32 (i 0).val
  let c10_i32_70 : BitVec 32 := 10#32
  let v154 : BitVec 32 := Scalar.muli arg0 c10_i32_70
  let c5_i32 : BitVec 32 := 5#32
  let v155 : BitVec 32 := Scalar.addi v154 c5_i32
  let v156 : BitVec 32 := Scalar.muli c2_i32_71 v155
  let v157 : Index := Scalar.indexCast v156
  ![v157.toNat]
def k0_off12 (v158 : BitVec 32) : Fin 2 → Nat :=
  let v168 : Index := Scalar.indexCast v158
  let c0_75 : Index := 0#32
  ![v168.toNat, 0]

def k0_chk6 (v158 : BitVec 32) : Prop :=
  (∀ a, (k0_off12 v158) a + S128x128.size a ≤ S10000x128.size a)
theorem k0_off12_inb : ∀ (v158 : BitVec 32) (k0_hw6 : k0_chk6 v158), ∀ a, (k0_off12 v158) a + S128x128.size a ≤ S10000x128.size a := fun v158 k0_hw6 => k0_hw6

def k0_off13 (i : grid0.Coords) : Fin 1 → Nat :=
  let c2_i32_83 : BitVec 32 := 2#32
  let arg0 : BitVec 32 := BitVec.ofNat 32 (i 0).val
  let c10_i32_82 : BitVec 32 := 10#32
  let v182 : BitVec 32 := Scalar.muli arg0 c10_i32_82
  let c6_i32 : BitVec 32 := 6#32
  let v183 : BitVec 32 := Scalar.addi v182 c6_i32
  let v184 : BitVec 32 := Scalar.muli c2_i32_83 v183
  let v185 : Index := Scalar.indexCast v184
  ![v185.toNat]
def k0_off14 (v186 : BitVec 32) : Fin 2 → Nat :=
  let v196 : Index := Scalar.indexCast v186
  let c0_87 : Index := 0#32
  ![v196.toNat, 0]

def k0_chk7 (v186 : BitVec 32) : Prop :=
  (∀ a, (k0_off14 v186) a + S128x128.size a ≤ S10000x128.size a)
theorem k0_off14_inb : ∀ (v186 : BitVec 32) (k0_hw7 : k0_chk7 v186), ∀ a, (k0_off14 v186) a + S128x128.size a ≤ S10000x128.size a := fun v186 k0_hw7 => k0_hw7

def k0_off15 (i : grid0.Coords) : Fin 1 → Nat :=
  let c2_i32_95 : BitVec 32 := 2#32
  let arg0 : BitVec 32 := BitVec.ofNat 32 (i 0).val
  let c10_i32_94 : BitVec 32 := 10#32
  let v210 : BitVec 32 := Scalar.muli arg0 c10_i32_94
  let c7_i32 : BitVec 32 := 7#32
  let v211 : BitVec 32 := Scalar.addi v210 c7_i32
  let v212 : BitVec 32 := Scalar.muli c2_i32_95 v211
  let v213 : Index := Scalar.indexCast v212
  ![v213.toNat]
def k0_off16 (v214 : BitVec 32) : Fin 2 → Nat :=
  let v224 : Index := Scalar.indexCast v214
  let c0_99 : Index := 0#32
  ![v224.toNat, 0]

def k0_chk8 (v214 : BitVec 32) : Prop :=
  (∀ a, (k0_off16 v214) a + S128x128.size a ≤ S10000x128.size a)
theorem k0_off16_inb : ∀ (v214 : BitVec 32) (k0_hw8 : k0_chk8 v214), ∀ a, (k0_off16 v214) a + S128x128.size a ≤ S10000x128.size a := fun v214 k0_hw8 => k0_hw8

def k0_off17 (i : grid0.Coords) : Fin 1 → Nat :=
  let c2_i32_107 : BitVec 32 := 2#32
  let arg0 : BitVec 32 := BitVec.ofNat 32 (i 0).val
  let c10_i32_106 : BitVec 32 := 10#32
  let v238 : BitVec 32 := Scalar.muli arg0 c10_i32_106
  let c8_i32 : BitVec 32 := 8#32
  let v239 : BitVec 32 := Scalar.addi v238 c8_i32
  let v240 : BitVec 32 := Scalar.muli c2_i32_107 v239
  let v241 : Index := Scalar.indexCast v240
  ![v241.toNat]
def k0_off18 (v242 : BitVec 32) : Fin 2 → Nat :=
  let v252 : Index := Scalar.indexCast v242
  let c0_111 : Index := 0#32
  ![v252.toNat, 0]

def k0_chk9 (v242 : BitVec 32) : Prop :=
  (∀ a, (k0_off18 v242) a + S128x128.size a ≤ S10000x128.size a)
theorem k0_off18_inb : ∀ (v242 : BitVec 32) (k0_hw9 : k0_chk9 v242), ∀ a, (k0_off18 v242) a + S128x128.size a ≤ S10000x128.size a := fun v242 k0_hw9 => k0_hw9

def k0_off19 (i : grid0.Coords) : Fin 1 → Nat :=
  let c2_i32_119 : BitVec 32 := 2#32
  let arg0 : BitVec 32 := BitVec.ofNat 32 (i 0).val
  let c10_i32_118 : BitVec 32 := 10#32
  let v266 : BitVec 32 := Scalar.muli arg0 c10_i32_118
  let c9_i32 : BitVec 32 := 9#32
  let v267 : BitVec 32 := Scalar.addi v266 c9_i32
  let v268 : BitVec 32 := Scalar.muli c2_i32_119 v267
  let v269 : Index := Scalar.indexCast v268
  ![v269.toNat]
def k0_off20 (v270 : BitVec 32) : Fin 2 → Nat :=
  let v280 : Index := Scalar.indexCast v270
  let c0_123 : Index := 0#32
  ![v280.toNat, 0]

def k0_chk10 (v270 : BitVec 32) : Prop :=
  (∀ a, (k0_off20 v270) a + S128x128.size a ≤ S10000x128.size a)
theorem k0_off20_inb : ∀ (v270 : BitVec 32) (k0_hw10 : k0_chk10 v270), ∀ a, (k0_off20 v270) a + S128x128.size a ≤ S10000x128.size a := fun v270 k0_hw10 => k0_hw10

def k0_off21 (i : grid0.Coords) : Fin 1 → Nat :=
  let c200_i32 : BitVec 32 := 200#32
  let arg0 : BitVec 32 := BitVec.ofNat 32 (i 0).val
  let v286 : BitVec 32 := Scalar.addi c200_i32 arg0
  let v287 : Index := Scalar.indexCast v286
  ![v287.toNat]
@[reducible] def k0_t1_loop : Scf.Loop 32 :=
  let c0_i32_127 : BitVec 32 := 0#32
  let c10_i32_128 : BitVec 32 := 10#32
  let v292 : BitVec 32 := Scalar.addi c0_i32_127 c10_i32_128
  let c1_i32_129 : BitVec 32 := 1#32
  ⟨c0_i32_127, v292, c1_i32_129⟩
def k0_off22 (i : grid0.Coords) (k0_t1 : Fin k0_t1_loop.trips) : Fin 1 → Nat :=
  let c2_i32_132 : BitVec 32 := 2#32
  let arg0 : BitVec 32 := BitVec.ofNat 32 (i 0).val
  let c10_i32_131 : BitVec 32 := 10#32
  let v293 : BitVec 32 := Scalar.muli arg0 c10_i32_131
  let c0_i32_127 : BitVec 32 := 0#32
  let c1_i32_129 : BitVec 32 := 1#32
  let arg7 : BitVec 32 := Scf.iv c0_i32_127 c1_i32_129 k0_t1
  let v294 : BitVec 32 := Scalar.addi v293 arg7
  let v295 : BitVec 32 := Scalar.muli c2_i32_132 v294
  let v296 : Index := Scalar.indexCast v295
  ![v296.toNat]
def k0_off23 (i : grid0.Coords) (k0_t1 : Fin k0_t1_loop.trips) : Fin 1 → Nat :=
  let c2_i32_134 : BitVec 32 := 2#32
  let arg0 : BitVec 32 := BitVec.ofNat 32 (i 0).val
  let c10_i32_133 : BitVec 32 := 10#32
  let v298 : BitVec 32 := Scalar.muli arg0 c10_i32_133
  let c0_i32_127 : BitVec 32 := 0#32
  let c1_i32_129 : BitVec 32 := 1#32
  let arg7 : BitVec 32 := Scf.iv c0_i32_127 c1_i32_129 k0_t1
  let v299 : BitVec 32 := Scalar.addi v298 arg7
  let v300 : BitVec 32 := Scalar.muli c2_i32_134 v299
  let c1_i32_135 : BitVec 32 := 1#32
  let v301 : BitVec 32 := Scalar.addi v300 c1_i32_135
  let v302 : Index := Scalar.indexCast v301
  ![v302.toNat]
def k0_off24 (k0_t1 : Fin k0_t1_loop.trips) : Fin 2 → Nat :=
  let c0_i32_127 : BitVec 32 := 0#32
  let c1_i32_129 : BitVec 32 := 1#32
  let arg7 : BitVec 32 := Scf.iv c0_i32_127 c1_i32_129 k0_t1
  let c3200_i32 : BitVec 32 := 3200#32
  let v308 : BitVec 32 := Scalar.muli arg7 c3200_i32
  let v309 : Index := Scalar.indexCast v308
  let c0_137 : Index := 0#32
  ![v309.toNat, 0]
def k0_off25 (k0_t1 : Fin k0_t1_loop.trips) : Fin 3 → Nat :=
  let c0_140 : Index := 0#32
  let c0_i32_127 : BitVec 32 := 0#32
  let c1_i32_129 : BitVec 32 := 1#32
  let arg7 : BitVec 32 := Scf.iv c0_i32_127 c1_i32_129 k0_t1
  let v316 : Index := Scalar.indexCast arg7
  let c0_141 : Index := 0#32
  ![0, v316.toNat, 0]
@[reducible] def k0_t2_loop (v297 : BitVec 32) (v303 : BitVec 32) : Scf.Loop 32 :=
  let c0_i32_144 : BitVec 32 := 0#32
  let v319 : BitVec 32 := Scalar.subi v303 v297
  let c128_i32_142 : BitVec 32 := 128#32
  let v320 : BitVec 32 := Scalar.divsi v319 c128_i32_142
  let v322 : BitVec 32 := Scalar.subi v320 c0_i32_144
  let c1_i32_145 : BitVec 32 := 1#32
  let v324 : BitVec 32 := Scalar.divsi v322 c1_i32_145
  let v325 : BitVec 32 := Scalar.muli v324 c1_i32_145
  let v326 : BitVec 32 := Scalar.addi c0_i32_144 v325
  let c1_i32_146 : BitVec 32 := 1#32
  ⟨c0_i32_144, v326, c1_i32_146⟩
def k0_cond2 (v288 : BitVec 32) : BitVec 1 :=
  let c0_i32_125 : BitVec 32 := 0#32
  let v289 : BitVec 1 := Scalar.cmpi .ne v288 c0_i32_125
  let v290 : BitVec 32 := Scalar.extui v289
  let c0_i32_126 : BitVec 32 := 0#32
  let v291 : BitVec 1 := Scalar.cmpi .ne v290 c0_i32_126
  v291

def k0_cond3 (v297 : BitVec 32) (v303 : BitVec 32) : BitVec 1 :=
  let c128_i32 : BitVec 32 := 128#32
  let v304 : BitVec 32 := Scalar.addi v297 c128_i32
  let v305 : BitVec 1 := Scalar.cmpi .sge v303 v304
  let v306 : BitVec 32 := Scalar.extui v305
  let c0_i32_136 : BitVec 32 := 0#32
  let v307 : BitVec 1 := Scalar.cmpi .ne v306 c0_i32_136
  v307

def k0_off26 (v340 : BitVec 32) : Fin 2 → Nat :=
  let c9872_i32 : BitVec 32 := 9872#32
  let v341 : BitVec 32 := Scalar.minsi v340 c9872_i32
  let c0_i32_151 : BitVec 32 := 0#32
  let v343 : BitVec 1 := Scalar.cmpi .sgt v341 c0_i32_151
  let v344 : BitVec 32 := Scalar.extui v343
  let c0_i32_152 : BitVec 32 := 0#32
  let v345 : BitVec 1 := Scalar.cmpi .slt v341 c0_i32_152
  let v346 : BitVec 32 := Scalar.extui v345
  let v347 : BitVec 32 := Scalar.subi v344 v346
  let c8_i32_150 : BitVec 32 := 8#32
  let c0_i32_153 : BitVec 32 := 0#32
  let v348 : BitVec 1 := Scalar.cmpi .sgt c8_i32_150 c0_i32_153
  let v349 : BitVec 32 := Scalar.extui v348
  let c0_i32_154 : BitVec 32 := 0#32
  let v350 : BitVec 1 := Scalar.cmpi .slt c8_i32_150 c0_i32_154
  let v351 : BitVec 32 := Scalar.extui v350
  let v352 : BitVec 32 := Scalar.subi v349 v351
  let v353 : BitVec 1 := Scalar.cmpi .ne v347 v352
  let v354 : BitVec 32 := Scalar.remsi v341 c8_i32_150
  let c0_i32_155 : BitVec 32 := 0#32
  let v355 : BitVec 1 := Scalar.cmpi .ne v354 c0_i32_155
  let v356 : BitVec 1 := Scalar.andi v353 v355
  let v342 : BitVec 32 := Scalar.divsi v341 c8_i32_150
  let c1_i32_156 : BitVec 32 := 1#32
  let v357 : BitVec 32 := Scalar.subi v342 c1_i32_156
  let v358 : BitVec 32 := Scalar.select v356 v357 v342
  let c8_i32_157 : BitVec 32 := 8#32
  let v359 : BitVec 32 := Scalar.muli v358 c8_i32_157
  let v373 : Index := Scalar.indexCast v359
  let c0_161 : Index := 0#32
  ![v373.toNat, 0]
def k0_cond4 (v303 : BitVec 32) (arg9 : BitVec 32) : BitVec 1 :=
  let v329 : BitVec 1 := Scalar.cmpi .sge v303 arg9
  let v330 : BitVec 32 := Scalar.extui v329
  let c0_i32_148 : BitVec 32 := 0#32
  let v331 : BitVec 1 := Scalar.cmpi .ne v330 c0_i32_148
  v331

def k0_chk12 (v288 : BitVec 32) (v297 : BitVec 32) (v303 : BitVec 32) (arg9 : BitVec 32) (v340 : BitVec 32) : Prop :=
  (∀ (k0_h2 : k0_cond2 v288 = 1#1), ∀ (k0_h3 : k0_cond3 v297 v303 = 1#1), ∀ (k0_h4 : k0_cond4 v303 arg9 = 1#1), ∀ a, (k0_off26 v340) a + S128x128.size a ≤ S10000x128.size a)
theorem k0_off26_inb : ∀ (v288 : BitVec 32) (v297 : BitVec 32) (v303 : BitVec 32) (arg9 : BitVec 32) (v340 : BitVec 32) (k0_hw12 : k0_chk12 v288 v297 v303 arg9 v340), ∀ (k0_h2 : k0_cond2 v288 = 1#1), ∀ (k0_h3 : k0_cond3 v297 v303 = 1#1), ∀ (k0_h4 : k0_cond4 v303 arg9 = 1#1), ∀ a, (k0_off26 v340) a + S128x128.size a ≤ S10000x128.size a := fun v288 v297 v303 arg9 v340 k0_hw12 k0_h2 k0_h3 k0_h4 => k0_hw12 k0_h2 k0_h3 k0_h4

@[reducible] def k0_t3_loop (v297 : BitVec 32) (v303 : BitVec 32) : Scf.Loop 32 :=
  let c0_i32_144 : BitVec 32 := 0#32
  let v319 : BitVec 32 := Scalar.subi v303 v297
  let c128_i32_142 : BitVec 32 := 128#32
  let v320 : BitVec 32 := Scalar.divsi v319 c128_i32_142
  let v322 : BitVec 32 := Scalar.subi v320 c0_i32_144
  let c1_i32_145 : BitVec 32 := 1#32
  let v324 : BitVec 32 := Scalar.divsi v322 c1_i32_145
  let v325 : BitVec 32 := Scalar.muli v324 c1_i32_145
  let v326 : BitVec 32 := Scalar.addi c0_i32_144 v325
  let v323 : BitVec 32 := Scalar.addi c0_i32_144 v322
  let c1_i32_147 : BitVec 32 := 1#32
  ⟨v326, v323, c1_i32_147⟩

def k0_chk11 (v288 : BitVec 32) (v297 : BitVec 32) (v303 : BitVec 32) : Prop :=
  (∀ (k0_h2 : k0_cond2 v288 = 1#1), ∀ (k0_h3 : k0_cond3 v297 v303 = 1#1), (k0_t2_loop v297 v303).OK) ∧
  (∀ (k0_h2 : k0_cond2 v288 = 1#1), ∀ (k0_h3 : k0_cond3 v297 v303 = 1#1), (k0_t3_loop v297 v303).OK)
theorem k0_t2_ok : ∀ (v288 : BitVec 32) (v297 : BitVec 32) (v303 : BitVec 32) (k0_hw11 : k0_chk11 v288 v297 v303), ∀ (k0_h2 : k0_cond2 v288 = 1#1), ∀ (k0_h3 : k0_cond3 v297 v303 = 1#1), (k0_t2_loop v297 v303).OK := fun v288 v297 v303 k0_hw11 k0_h2 k0_h3 => k0_hw11.1 k0_h2 k0_h3
theorem k0_t3_ok : ∀ (v288 : BitVec 32) (v297 : BitVec 32) (v303 : BitVec 32) (k0_hw11 : k0_chk11 v288 v297 v303), ∀ (k0_h2 : k0_cond2 v288 = 1#1), ∀ (k0_h3 : k0_cond3 v297 v303 = 1#1), (k0_t3_loop v297 v303).OK := fun v288 v297 v303 k0_hw11 k0_h2 k0_h3 => k0_hw11.2 k0_h2 k0_h3

def k0_off27 (v340 : BitVec 32) : Fin 2 → Nat :=
  let c9872_i32 : BitVec 32 := 9872#32
  let v341 : BitVec 32 := Scalar.minsi v340 c9872_i32
  let c0_i32_151 : BitVec 32 := 0#32
  let v343 : BitVec 1 := Scalar.cmpi .sgt v341 c0_i32_151
  let v344 : BitVec 32 := Scalar.extui v343
  let c0_i32_152 : BitVec 32 := 0#32
  let v345 : BitVec 1 := Scalar.cmpi .slt v341 c0_i32_152
  let v346 : BitVec 32 := Scalar.extui v345
  let v347 : BitVec 32 := Scalar.subi v344 v346
  let c8_i32_150 : BitVec 32 := 8#32
  let c0_i32_153 : BitVec 32 := 0#32
  let v348 : BitVec 1 := Scalar.cmpi .sgt c8_i32_150 c0_i32_153
  let v349 : BitVec 32 := Scalar.extui v348
  let c0_i32_154 : BitVec 32 := 0#32
  let v350 : BitVec 1 := Scalar.cmpi .slt c8_i32_150 c0_i32_154
  let v351 : BitVec 32 := Scalar.extui v350
  let v352 : BitVec 32 := Scalar.subi v349 v351
  let v353 : BitVec 1 := Scalar.cmpi .ne v347 v352
  let v354 : BitVec 32 := Scalar.remsi v341 c8_i32_150
  let c0_i32_155 : BitVec 32 := 0#32
  let v355 : BitVec 1 := Scalar.cmpi .ne v354 c0_i32_155
  let v356 : BitVec 1 := Scalar.andi v353 v355
  let v342 : BitVec 32 := Scalar.divsi v341 c8_i32_150
  let c1_i32_156 : BitVec 32 := 1#32
  let v357 : BitVec 32 := Scalar.subi v342 c1_i32_156
  let v358 : BitVec 32 := Scalar.select v356 v357 v342
  let c8_i32_157 : BitVec 32 := 8#32
  let v359 : BitVec 32 := Scalar.muli v358 c8_i32_157
  let v373 : Index := Scalar.indexCast v359
  let c0_161 : Index := 0#32
  ![v373.toNat, 0]
def k0_cond5 (v303 : BitVec 32) (arg9 : BitVec 32) : BitVec 1 :=
  let v329 : BitVec 1 := Scalar.cmpi .sge v303 arg9
  let v330 : BitVec 32 := Scalar.extui v329
  let c0_i32_148 : BitVec 32 := 0#32
  let v331 : BitVec 1 := Scalar.cmpi .ne v330 c0_i32_148
  v331

def k0_chk13 (v288 : BitVec 32) (v297 : BitVec 32) (v303 : BitVec 32) (arg9 : BitVec 32) (v340 : BitVec 32) : Prop :=
  (∀ (k0_h2 : k0_cond2 v288 = 1#1), ∀ (k0_h3 : k0_cond3 v297 v303 = 1#1), ∀ (k0_h5 : k0_cond5 v303 arg9 = 1#1), ∀ a, (k0_off27 v340) a + S128x128.size a ≤ S10000x128.size a)
theorem k0_off27_inb : ∀ (v288 : BitVec 32) (v297 : BitVec 32) (v303 : BitVec 32) (arg9 : BitVec 32) (v340 : BitVec 32) (k0_hw13 : k0_chk13 v288 v297 v303 arg9 v340), ∀ (k0_h2 : k0_cond2 v288 = 1#1), ∀ (k0_h3 : k0_cond3 v297 v303 = 1#1), ∀ (k0_h5 : k0_cond5 v303 arg9 = 1#1), ∀ a, (k0_off27 v340) a + S128x128.size a ≤ S10000x128.size a := fun v288 v297 v303 arg9 v340 k0_hw13 k0_h2 k0_h3 k0_h5 => k0_hw13 k0_h2 k0_h3 k0_h5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x10x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000x128 : Shape := ⟨2, ![10000, 128]⟩
abbrev S320000x1 : Shape := ⟨2, ![320000, 1]⟩

abbrev nBuf : Space → Nat
  | .hbm => 16
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S320000x128, .f32⟩
  | .hbm, ⟨6, _⟩ => ⟨S1x128, .f32⟩
  | .hbm, ⟨7, _⟩ => ⟨S320000x128, .f32⟩
  | .hbm, ⟨8, _⟩ => ⟨S320000x128, .f32⟩
  | .hbm, ⟨9, _⟩ => ⟨S_, .f32⟩
  | .hbm, ⟨10, _⟩ => ⟨S320000x128, .f32⟩
  | .hbm, ⟨11, _⟩ => ⟨S320000x128, .f32⟩
  | .hbm, ⟨12, _⟩ => ⟨S_, .f32⟩
  | .hbm, ⟨13, _⟩ => ⟨S10000x128, .f32⟩
  | .hbm, ⟨14, _⟩ => ⟨S320000x1, .i32⟩
  | .hbm, ⟨15, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Steps.lean ====
/-
  Hand-written. What one grid point of the segment-sum kernel does to its accumulator, as plain functions of vectors:
  no memory, no views, no program. The accumulator is the whole (10000, 128) result; a sub-tile is 3200 consecutive
  rows, their segment numbers and their rectified affine images; a window is 128 consecutive rows of the accumulator.
-/
module

public import proofs.«01_k».proof.Proof.Gen.KernelIdeal.Skeleton
public import Idealize.ShloMosaic.Lib.VecWindow

@[expose] public section

set_option maxRecDepth 16384

noncomputable section

namespace Cert.KernelIdeal.Seg

open Cert.KernelIdeal Cert.KernelIdeal.Gen
open Idealize.ShloMosaic Idealize.ShloMosaic.TcCoe

variable {F : FTy → Type} [FloatOps F]

/-- The accumulator: the whole result, as a vector. -/
abbrev Acc (F : FTy → Type) : Type := S10000x128.Idx → Elt F .f32

/-- The window of 128 rows that starts at the word `w` lies inside the accumulator. -/
abbrev Fits (w : BitVec 32) : Prop := ∀ a, (k0_off2 w) a + S128x128.size a ≤ S10000x128.size a

/-- The rows of the window at `w` against the segment numbers of a sub-tile: 1 where the row is the segment. -/
def hit (w : BitVec 32) (ids : IVec S1x3200 32) : IVec S128x3200 1 :=
  cmpi .eq (addi (iota .tc S128x3200 32 [0] iota_S128x3200_d0_w32) (broadcast S128x3200 w)) (broadcastTo S128x3200 ids broadcasts_S1x3200_S128x3200)

/-- The same with the segment numbers below `lim` left out. -/
def hitFrom (w lim : BitVec 32) (ids : IVec S1x3200 32) : IVec S128x3200 1 :=
  andi (hit w ids) (broadcastTo S128x3200 (cmpi .sge ids (broadcast S1x3200 lim)) broadcasts_S1x3200_S128x3200)

/-- A window with the rows of `y` that the mask selects for each of its rows added to it. -/
def addRows (mask : IVec S128x3200 1) (y : FVec F S3200x128 .f32) (win : Vec F S128x128 .f32) : FVec F S128x128 .f32 :=
  addf (shapeCast S128x128 win shapeCasts_S128x128_S128x128)
    (matmul dot_S128x3200_S3200x128_S128x128_1_0_0_1_n_n none
      (select mask (broadcast S128x3200 (Scalar.ofBits .f32 0x3F800000#32 : F .f32)) (broadcast S128x3200 (Scalar.ofBits .f32 0x00000000#32 : F .f32)))
      y (constant S128x128 .f32 0x00000000#32))

/-- The accumulator with `addRows` done on its window at `w` (unchanged where the window does not fit). -/
def winStep (w : BitVec 32) (mask : IVec S128x3200 1) (y : FVec F S3200x128 .f32) (X : Acc F) : Acc F :=
  if h : Fits w then VecWindow.put X (k0_off2 w) S128x128.size (addRows mask y (VecWindow.window X (k0_off2 w) S128x128.size h)) else X

/-- The start of the window that serves the segment number `v`: `v` capped at 9872 and rounded down to a multiple of 8. -/
def curOf (v340 : BitVec 32) : BitVec 32 :=
  let v341 := Scalar.minsi v340 9872#32
  let v342 := Scalar.divsi v341 8#32
  let v343 := Scalar.cmpi .sgt v341 0#32
  let v344 : BitVec 32 := Scalar.extui v343
  let v345 := Scalar.cmpi .slt v341 0#32
  let v346 : BitVec 32 := Scalar.extui v345
  let v347 := Scalar.subi v344 v346
  let v348 := Scalar.cmpi (w := 32) .sgt 8#32 0#32
  let v349 : BitVec 32 := Scalar.extui v348
  let v350 := Scalar.cmpi (w := 32) .slt 8#32 0#32
  let v351 : BitVec 32 := Scalar.extui v350
  let v352 := Scalar.subi v349 v351
  let v353 := Scalar.cmpi .ne v347 v352
  let v354 := Scalar.remsi v341 8#32
  let v355 := Scalar.cmpi .ne v354 0#32
  let v356 := Scalar.andi v353 v355
  let v357 := Scalar.subi v342 1#32
  let v358 := Scalar.select v356 v357 v342
  Scalar.muli v358 8#32

/-- The least segment number of a sub-tile that is at least `lim`; 10000 if there is none. -/
def nextRow (ids : IVec S1x3200 32) (lim : BitVec 32) : BitVec 32 :=
  extractAt ![0, 0, 0] (k0_pay3 10000#32 ids lim) inpos_S1x1x1_p0_0_0

/-- One more window over a sub-tile whose segments outrun the windows so far: the state is the first row no window has
    served yet and the accumulator; `last` is the sub-tile's last segment number. -/
def sweep (last : BitVec 32) (y : FVec F S3200x128 .f32) (ids : IVec S1x3200 32) (s : BitVec 32 × Acc F) : BitVec 32 × Acc F :=
  if k0_cond4 last s.1 = 1#1 then
    (Scalar.addi (curOf (nextRow ids s.1)) 128#32,
      winStep (curOf (nextRow ids s.1)) (hitFrom (curOf (nextRow ids s.1)) s.1 ids) y s.2)
  else s

/-- `f 0`, then `f 1`, …, `k` of them in all. -/
def runUpTo {α : Type} (f : Fin 10 → α → α) : ℕ → α → α
  | 0, x => x
  | k + 1, x => f (Fin.ofNat 10 k) (runUpTo f k x)

/-- The word table at one entry. -/
def tableAt (T : S210.Idx → BitVec 32) (k : Fin 210) : BitVec 32 := T (fun a => ⟨k.val, Nat.lt_of_lt_of_le k.isLt (by revert a; decide)⟩)

/-- Sub-tile `n`'s start of its first window, at grid point `g`. -/
def baseW (T : S210.Idx → BitVec 32) (g n : Fin 10) : BitVec 32 := tableAt T ⟨20 * g.val + 2 * n.val, by omega⟩
/-- Sub-tile `n`'s last segment number, at grid point `g`. -/
def lastW (T : S210.Idx → BitVec 32) (g n : Fin 10) : BitVec 32 := tableAt T ⟨20 * g.val + 2 * n.val + 1, by omega⟩
/-- Whether some sub-tile of grid point `g` outruns its first window. -/
def flagW (T : S210.Idx → BitVec 32) (g : Fin 10) : BitVec 32 := tableAt T ⟨200 + g.val, by omega⟩

/-- A sub-tile's rows lie inside the grid point's rows. -/
theorem rows_inb (n : Fin 10) : ∀ a, (![3200 * n.val, 0] : Fin 2 → ℕ) a + S3200x128.size a ≤ S32000x128.size a := by revert n; decide +kernel
/-- A sub-tile's segment numbers lie inside the grid point's. -/
theorem ids_inb (n : Fin 10) : ∀ a, (![0, n.val, 0] : Fin 3 → ℕ) a + S1x1x3200.size a ≤ S1x10x3200.size a := by revert n; decide +kernel

/-- Sub-tile `n`'s rows. -/
def tileX (x : S32000x128.Idx → Elt F .f32) (n : Fin 10) : Vec F S3200x128 .f32 := VecWindow.window x ![3200 * n.val, 0] S3200x128.size (rows_inb n)
/-- Sub-tile `n`'s segment numbers, as the block stores them. -/
def tileRow (ids : S1x10x3200.Idx → BitVec 32) (n : Fin 10) : S1x1x3200.Idx → BitVec 32 := VecWindow.window ids ![0, n.val, 0] S1x1x3200.size (ids_inb n)
/-- Sub-tile `n`'s segment numbers, as a row. -/
def tileIds (ids : S1x10x3200.Idx → BitVec 32) (n : Fin 10) : IVec S1x3200 32 := shapeCast S1x3200 (tileRow ids n) shapeCasts_S1x1x3200_S1x3200
/-- Sub-tile `n`'s rows times the weights, plus the bias, rectified. -/
def tileY (x : S32000x128.Idx → Elt F .f32) (W : S128x128.Idx → Elt F .f32) (b : S1x128.Idx → Elt F .f32) (n : Fin 10) : FVec F S3200x128 .f32 :=
  k0_pay1 W (k0_pay8 b) (tileX x n)

/-- What a grid point reads: the word table, its segment numbers, its rows, the weights, the bias. -/
structure Ins (F : FTy → Type) where
  T : S210.Idx → BitVec 32
  ids : S1x10x3200.Idx → BitVec 32
  x : S32000x128.Idx → Elt F .f32
  W : S128x128.Idx → Elt F .f32
  b : S1x128.Idx → Elt F .f32

/-- Sub-tile `n`'s first window. -/
def plain (I : Ins F) (g n : Fin 10) (X : Acc F) : Acc F :=
  winStep (baseW I.T g n) (hit (baseW I.T g n) (tileIds I.ids n)) (tileY I.x I.W I.b n) X

/-- The further windows of a sub-tile after `k` of them: the first row not served yet, and the accumulator. -/
def sweeps (I : Ins F) (g n : Fin 10) (X : Acc F) (k : ℕ) : BitVec 32 × Acc F :=
  (sweep (lastW I.T g n) (tileY I.x I.W I.b n) (tileIds I.ids n))^[k] (Scalar.addi (baseW I.T g n) 128#32, X)

/-- One more further window is one more `sweep`. -/
theorem sweeps_succ (I : Ins F) (g n : Fin 10) (X : Acc F) (k : ℕ) :
    sweeps I g n X (k + 1) = sweep (lastW I.T g n) (tileY I.x I.W I.b n) (tileIds I.ids n) (sweeps I g n X k) :=
  Function.iterate_succ_apply' _ _ _

/-- Sub-tile `n`'s further windows, if it needs any. -/
def over (I : Ins F) (g n : Fin 10) (X : Acc F) : Acc F :=
  if k0_cond3 (baseW I.T g n) (lastW I.T g n) = 1#1 then (sweeps I g n X (k0_t2_loop (baseW I.T g n) (lastW I.T g n)).trips).2 else X

/-- What the accumulator starts a grid point from: zeros at the first, what is there at the others. -/
def fresh (g : Fin 10) (X : Acc F) : Acc F := if g = 0 then k0_pay7 (F := F) else X

/-- The accumulator after a grid point's ten first windows. -/
def plains (I : Ins F) (g : Fin 10) (X : Acc F) : Acc F := runUpTo (plain I g) 10 (fresh g X)

/-- The accumulator after a grid point. -/
def pointStep (I : Ins F) (g : Fin 10) (X : Acc F) : Acc F :=
  if k0_cond2 (flagW I.T g) = 1#1 then runUpTo (over I g) 10 (plains I g X) else plains I g X

/-- What a grid point's words and segment numbers must satisfy for it to run: every window it names fits, and its
    counted loops are in range, the remainder loop empty. -/
structure Sound (I : Ins F) (g : Fin 10) : Prop where
  fits : ∀ n, Fits (baseW I.T g n)
  loop2 : ∀ n, k0_cond3 (baseW I.T g n) (lastW I.T g n) = 1#1 → (k0_t2_loop (baseW I.T g n) (lastW I.T g n)).OK
  loop3 : ∀ n, k0_cond3 (baseW I.T g n) (lastW I.T g n) = 1#1 → (k0_t3_loop (baseW I.T g n) (lastW I.T g n)).OK
  none3 : ∀ n, k0_cond3 (baseW I.T g n) (lastW I.T g n) = 1#1 → (k0_t3_loop (baseW I.T g n) (lastW I.T g n)).trips = 0
  next : ∀ n lim, Fits (curOf (nextRow (tileIds I.ids n) lim))

/-! ## The program's own offsets and payloads in these words -/

/-- The program's own place of a further window is `curOf`'s. -/
theorem off26_eq (v : BitVec 32) : k0_off26 v = k0_off2 (curOf v) := rfl
/-- What the program stores on a further window is `addRows` under `hitFrom`. -/
theorem pay4_eq (y : FVec F S3200x128 .f32) (ids : IVec S1x3200 32) (lim : BitVec 32) (win : Vec F S128x128 .f32) :
    k0_pay4 10000#32 y ids lim win = addRows (hitFrom (curOf (nextRow ids lim)) lim ids) y win := rfl
/-- What the program stores on the first sub-tile's first window is `addRows` under `hit`. -/
theorem pay9_eq (W : Vec F S128x128 .f32) (b : Vec F S1x128 .f32) (x : Vec F S3200x128 .f32) (ids : Vec F S1x1x3200 .i32) (w : BitVec 32) (win : Vec F S128x128 .f32) :
    k0_pay9 W b x ids w win = addRows (hit w (k0_pay2 (F := F) ids)) (k0_pay1 W (k0_pay8 b) x) win := rfl
/-- The same of the other sub-tiles. -/
theorem pay10_eq (W : Vec F S128x128 .f32) (b : FVec F S1x128 .f32) (x : Vec F S3200x128 .f32) (ids : Vec F S1x1x3200 .i32) (w : BitVec 32) (win : Vec F S128x128 .f32) :
    k0_pay10 W b x ids w win = addRows (hit w (k0_pay2 (F := F) ids)) (k0_pay1 W b x) win := rfl

end Cert.KernelIdeal.Seg
-- ==== Proof.Body.lean ====
/-
  Hand-written. One grid point of the segment-sum kernel, run: from buffers that read the point's table, segment
  numbers, rows, weights and bias, and an accumulator that reads `X`, the body ends with the same buffers and an
  accumulator that reads `pointStep … X` (Steps.lean).
-/
module

public import proofs.«01_k».proof.Proof.Steps
public import proofs.«01_k».proof.Proof.Gen.KernelIdeal.Launch
public import proofs.«01_k».proof.Proof.Gen.KernelIdeal.Loops
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator's buffer, held at some contents that read `X`. -/
def holds (c : Dev nD) (arg6 : Memref sig .tc .vmem S10000x128 .f32) (X : Acc F) : sProp 𝕄 :=
  iprop(∃ f : Buf (Elt F) (arg6.view.loc (c : Thread nD τ)), ⌜arg6.view.read (Elt F) f = X⌝ ∗ arg6.view.loc (c : Thread nD τ) ↦[arg6.view.set]{fullShare} f)

/-- A store of `addRows` over a window of a buffer that reads `X`: the buffer then reads `winStep`. -/
theorem read_store (arg6 : Memref sig .tc .vmem S10000x128 .f32) (f : arg6.view.ty.Contents (Elt F)) (L : List (View.Piece (Elt F) S10000x128 .f32)) (X : Acc F)
    (w : BitVec 32) (mask : IVec S128x3200 1) (y : FVec F S3200x128 .f32) {off : Fin 2 → ℕ} (inb : ∀ a, off a + S128x128.size a ≤ S10000x128.size a)
    (h : off = k0_off2 w) (hX : arg6.view.read (Elt F) (arg6.view.writes (Elt F) f L) = X)
    (win : Vec F S128x128 .f32) (hwin : win = arg6.view.readAt (Elt F) (Rect.unit (s := S10000x128) off S128x128.size inb).toLoadRect (arg6.view.writes (Elt F) f L)) :
    arg6.view.read (Elt F) (arg6.view.writes (Elt F) f (⟨Rect.unit (s := S10000x128) off S128x128.size inb, addRows mask y win⟩ :: L)) = winStep w mask y X := by
  subst h hX hwin
  rw [View.read_writes_cons_put _ _ inb _ L rfl, View.readAt_unit _ _ inb rfl inb, winStep, dif_pos inb]

section Args

variable (c : Dev nD) (i : grid0.Coords) (arg1 : Memref sig .tc .smem S210 .i32) (harg1 : arg1.IsWhole)
    (arg2 : Memref sig .tc .vmem S1x10x3200 .i32) (harg2 : arg2.IsWhole) (arg3 : Memref sig .tc .vmem S32000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S10000x128 .f32) (harg6 : arg6.IsWhole)

/-- One trip of the loop over a sub-tile's further windows is one `sweep`. -/
theorem sweep_trip (v3 : Vec F S128x128 .f32) (v5 : FVec F S1x128 .f32) (v288 : Elt F .i32) (k0_h2 : k0_cond2 v288 = 1#1)
    (v297 v303 : Elt F .i32) (hw11 : k0_chk11 v288 v297 v303) (h3 : k0_cond3 v297 v303 = 1#1) (v310 : Vec F S3200x128 .f32) (v317 : Vec F S1x1x3200 .i32)
    (hnext : ∀ lim, Fits (curOf (nextRow (k0_pay2 (F := F) v317) lim)))
    (k : Fin (k0_t2_loop v297 v303).trips) (s : BitVec 32 × Acc F) :
    holds c arg6 s.2
    ⊢ wp frame (wpE (defs₀ (F := F)) Variants.none (c : Thread nD τ) none) Set.univ
        (k0_t2_body (F := F) i arg1 harg1 arg2 harg2 arg3 harg3 arg4 harg4 arg5 harg5 arg6 harg6 v3 v5 v288 10000#32 k0_h2 v297 v303 hw11 h3 v310 v317 k s.1)
        (fun acc => iprop(⌜acc = (sweep v303 (k0_pay1 v3 v5 v310) (k0_pay2 (F := F) v317) s).1⌝
          ∗ holds c arg6 (sweep v303 (k0_pay1 v3 v5 v310) (k0_pay2 (F := F) v317) s).2)) := by
  unfold holds
  by_cases h4 : k0_cond4 v303 s.1 = 1#1
  · rw [sweep, if_pos h4]
    have hn := hnext s.1
    have hc : k0_chk12 v288 v297 v303 s.1 (extractAt ![0, 0, 0] (k0_pay3 10000#32 (k0_pay2 (F := F) v317) s.1) inpos_S1x1x1_p0_0_0) := fun _ _ _ => hn
    sl_unfold [k0_t2_body]
    iintro ⟨%f, %hf, H6⟩
    sl_exec
    sl_step
    isplitr
    · ipureintro; rfl
    iexists _
    isplitr
    rotate_left
    · iexact H6
    · ipureintro
      exact read_store arg6 f [] s.2 _ _ _ _ rfl hf _ rfl
  · rw [sweep, if_neg h4]
    sl_unfold [k0_t2_body]
    iintro ⟨%f, %hf, H6⟩
    sl_exec
    sl_step
    isplitr
    · ipureintro; rfl
    iexists f
    isplitr
    · ipureintro; exact hf
    iexact H6

/-- The same from any carried value that is the state's. -/
theorem sweep_step (v3 : Vec F S128x128 .f32) (v5 : FVec F S1x128 .f32) (v288 : Elt F .i32) (k0_h2 : k0_cond2 v288 = 1#1)
    (v297 v303 : Elt F .i32) (hw11 : k0_chk11 v288 v297 v303) (h3 : k0_cond3 v297 v303 = 1#1) (v310 : Vec F S3200x128 .f32) (v317 : Vec F S1x1x3200 .i32)
    (hnext : ∀ lim, Fits (curOf (nextRow (k0_pay2 (F := F) v317) lim)))
    (k : Fin (k0_t2_loop v297 v303).trips) (acc : BitVec 32) (s s' : BitVec 32 × Acc F)
    (hs : s' = sweep v303 (k0_pay1 v3 v5 v310) (k0_pay2 (F := F) v317) s) :
    iprop(⌜acc = s.1⌝ ∗ holds c arg6 s.2)
    ⊢ wp frame (wpE (defs₀ (F := F)) Variants.none (c : Thread nD τ) none) Set.univ
        (k0_t2_body (F := F) i arg1 harg1 arg2 harg2 arg3 harg3 arg4 harg4 arg5 harg5 arg6 harg6 v3 v5 v288 10000#32 k0_h2 v297 v303 hw11 h3 v310 v317 k acc)
        (fun acc => iprop(⌜acc = s'.1⌝ ∗ holds c arg6 s'.2)) := by
  subst hs
  iintro ⟨%hacc, H⟩
  subst hacc
  iapply (sweep_trip c i arg1 harg1 arg2 harg2 arg3 harg3 arg4 harg4 arg5 harg5 arg6 harg6 v3 v5 v288 k0_h2 v297 v303 hw11 h3 v310 v317 hnext k s)
  iexact H

/-- A read of one word of the table: the entry at the index the offset names. -/
theorem word_eq {T : S210.Idx → BitVec 32} {f1 : arg1.view.ty.Contents (Elt F)} (hT : arg1.view.read (Elt F) f1 = T) {off : Fin 1 → ℕ}
    (inb : ∀ a, off a + S1.size a ≤ S210.size a) (k : Fin 210) (h : off = ![k.val]) :
    arg1.view.readAt (Elt F) (Rect.unit (s := S210) off S1.size inb).toLoadRect f1 = fun _ => tableAt T k := by
  subst hT h
  funext z
  exact congrArg (arg1.view.read (Elt F) f1) (funext fun a => Fin.ext (by
    fin_cases a
    show k.val + 1 * (z 0).val = k.val
    have : (z 0).val < 1 := (z 0).isLt
    omega))

/-- One trip of the loop over the sub-tiles that outrun their first window is one `over`. -/
theorem over_trip (I : Ins F) (g : Fin 10) (hg : (i 0).val = g.val) (hS : Sound I g)
    (f1 : Buf (Elt F) (arg1.view.loc (c : Thread nD τ))) (f2 : Buf (Elt F) (arg2.view.loc (c : Thread nD τ)))
    (f3 : Buf (Elt F) (arg3.view.loc (c : Thread nD τ))) (hT : arg1.view.read (Elt F) f1 = I.T) (hids : arg2.view.read (Elt F) f2 = I.ids)
    (hx : arg3.view.read (Elt F) f3 = I.x) (v288 : Elt F .i32) (k0_h2 : k0_cond2 v288 = 1#1) (k : Fin k0_t1_loop.trips) (n : Fin 10) (hn : n.val = k.val) (X : Acc F) :
    iprop((arg1.view.loc (c : Thread nD τ) ↦[arg1.view.set]{fullShare.right} f1 : sProp 𝕄)
      ∗ (arg2.view.loc (c : Thread nD τ) ↦[arg2.view.set]{fullShare} f2)
      ∗ (arg3.view.loc (c : Thread nD τ) ↦[arg3.view.set]{fullShare} f3)
      ∗ holds c arg6 X)
    ⊢ wp frame (wpE (defs₀ (F := F)) Variants.none (c : Thread nD τ) none) Set.univ
        (k0_t1_body (F := F) i arg1 harg1 arg2 harg2 arg3 harg3 arg4 harg4 arg5 harg5 arg6 harg6 I.W (k0_pay8 I.b) v288 10000#32 k0_h2 k ⟨⟩)
        (fun _ => iprop((arg1.view.loc (c : Thread nD τ) ↦[arg1.view.set]{fullShare.right} f1 : sProp 𝕄)
          ∗ (arg2.view.loc (c : Thread nD τ) ↦[arg2.view.set]{fullShare} f2)
          ∗ (arg3.view.loc (c : Thread nD τ) ↦[arg3.view.set]{fullShare} f3)
          ∗ holds c arg6 (over I g n X))) := by
  have e1 : arg1.view.readAt (Elt F) (Rect.unit (s := S210) (k0_off22 i k) S1.size (k0_off22_inb i k)).toLoadRect f1 = fun _ => baseW I.T g n :=
    word_eq arg1 hT _ _ (by rw [k0_off22_eq]; exact congrArg (fun m : ℕ => ![m]) (by show _ = 20 * g.val + 2 * n.val; omega))
  have e2 : arg1.view.readAt (Elt F) (Rect.unit (s := S210) (k0_off23 i k) S1.size (k0_off23_inb i k)).toLoadRect f1 = fun _ => lastW I.T g n :=
    word_eq arg1 hT _ _ (by rw [k0_off23_eq]; exact congrArg (fun m : ℕ => ![m]) (by show _ = 20 * g.val + 2 * n.val + 1; omega))
  have e3 : arg3.view.readAt (Elt F) (Rect.unit (s := S32000x128) (k0_off24 k) S3200x128.size (k0_off24_inb k)).toLoadRect f3 = tileX I.x n := by
    rw [View.readAt_unit _ _ _ (by rw [k0_off24_eq, hn]) (rows_inb n), hx]; rfl
  have e4 : arg2.view.readAt (Elt F) (Rect.unit (s := S1x10x3200) (k0_off25 k) S1x1x3200.size (k0_off25_inb k)).toLoadRect f2 = tileRow I.ids n := by
    rw [View.readAt_unit _ _ _ (by rw [k0_off25_eq, hn]) (ids_inb n), hids]; rfl
  have hl2 := hS.loop2 n
  have hl3 := hS.loop3 n
  have hl0 := hS.none3 n
  have hnx : ∀ lim, Fits (curOf (nextRow (k0_pay2 (F := F) (tileRow I.ids n)) lim)) := hS.next n
  rw [over]
  have hss : ∀ j, sweeps I g n X (j + 1) = sweep (lastW I.T g n) (k0_pay1 I.W (k0_pay8 I.b) (tileX I.x n)) (k0_pay2 (F := F) (tileRow I.ids n)) (sweeps I g n X j) :=
    sweeps_succ I g n X
  have hs0 : sweeps I g n X 0 = (Scalar.addi (baseW I.T g n) 128#32, X) := rfl
  generalize sweeps I g n X = S at hss hs0 ⊢
  generalize baseW I.T g n = bw at e1 hl2 hl3 hl0 hs0 ⊢
  generalize lastW I.T g n = lw at e2 hl2 hl3 hl0 hss ⊢
  by_cases h3 : k0_cond3 bw lw = 1#1
  · have hc : k0_chk11 v288 bw lw := ⟨fun _ _ => hl2 h3, fun _ _ => hl3 h3⟩
    rw [if_pos h3]
    sl_unfold [k0_t1_body]
    iintro ⟨H1, H2, H3, H6⟩
    sl_exec
    sl_for (fun k acc => iprop(⌜acc = (S k).1⌝ ∗ holds c arg6 (S k).2)) $$ [H6]
    case region =>
      intro k2 acc
      sl_respell []
      exact sweep_step c i arg1 harg1 arg2 harg2 arg3 harg3 arg4 harg4 arg5 harg5 arg6 harg6 I.W (k0_pay8 I.b) v288 k0_h2
        bw lw hc h3 (tileX I.x n) (tileRow I.ids n) hnx k2 acc (S k2.val) (S (k2.val + 1)) (hss k2.val)
    · rw [hs0]
      isplitr
      · ipureintro; rfl
      · iexact H6
    iintro %acc ⟨%hacc, H6⟩
    sl_exec
    sl_for (fun _ _ => holds c arg6 (S (k0_t2_loop bw lw).trips).2) $$ [H6]
    case region =>
      intro k3 _
      exact (Nat.not_lt_zero _ (Nat.lt_of_lt_of_eq k3.isLt (hl0 h3))).elim
    · iexact H6
    iintro %_ H6
    sl_exec
    sl_step
    isplitl [H1]; · iexact H1
    isplitl [H2]; · iexact H2
    isplitl [H3]; · iexact H3
    iexact H6
  · have hc : k0_chk11 v288 bw lw := ⟨fun _ h => absurd h h3, fun _ h => absurd h h3⟩
    rw [if_neg h3]
    sl_unfold [k0_t1_body]
    iintro ⟨H1, H2, H3, H6⟩
    sl_exec
    sl_step
    isplitl [H1]; · iexact H1
    isplitl [H2]; · iexact H2
    isplitl [H3]; · iexact H3
    iexact H6

/-- A read of the table where sub-tile `n`'s window start is kept. -/
theorem base_eq {T : S210.Idx → BitVec 32} {f1 : arg1.view.ty.Contents (Elt F)} (hT : arg1.view.read (Elt F) f1 = T) {g : Fin 10} (hg : (i 0).val = g.val) (n : Fin 10)
    {off : Fin 1 → ℕ} (inb : ∀ a, off a + S1.size a ≤ S210.size a) (h : off = ![20 * (i 0).val + 2 * n.val]) :
    arg1.view.readAt (Elt F) (Rect.unit (s := S210) off S1.size inb).toLoadRect f1 = fun _ => baseW T g n :=
  word_eq arg1 hT inb ⟨20 * g.val + 2 * n.val, by omega⟩ (by rw [h, hg])

/-- A read of 3200 rows: the sub-tile's. -/
theorem rows_eq {x : S32000x128.Idx → Elt F .f32} {f3 : arg3.view.ty.Contents (Elt F)} (hx : arg3.view.read (Elt F) f3 = x) (n : Fin 10) (off : Fin 2 → ℕ)
    (inb : ∀ a, off a + S3200x128.size a ≤ S32000x128.size a) (h : off = ![3200 * n.val, 0]) :
    arg3.view.readAt (Elt F) (Rect.unit (s := S32000x128) off S3200x128.size inb).toLoadRect f3 = tileX x n := by
  rw [View.readAt_unit _ _ _ h (rows_inb n), hx]; rfl

/-- A read of 3200 segment numbers: the sub-tile's. -/
theorem ids_eq {ids : S1x10x3200.Idx → BitVec 32} {f2 : arg2.view.ty.Contents (Elt F)} (hids : arg2.view.read (Elt F) f2 = ids) (n : Fin 10) (off : Fin 3 → ℕ)
    (inb : ∀ a, off a + S1x1x3200.size a ≤ S1x10x3200.size a) (h : off = ![0, n.val, 0]) :
    arg2.view.readAt (Elt F) (Rect.unit (s := S1x10x3200) off S1x1x3200.size inb).toLoadRect f2 = tileRow ids n := by
  rw [View.readAt_unit _ _ _ h (ids_inb n), hids]; rfl

/-- The first grid point alone takes the branch that clears the accumulator. -/
theorem clears_iff : ∀ g : Fin 10, Scalar.cmpi .ne (Scalar.extui (Scalar.cmpi .eq (BitVec.ofNat 32 g.val) 0#32) : BitVec 32) 0#32 = 1#1 ↔ g = 0 := by decide +kernel

/-- The first sub-tile's window, with the accumulator cleared before it at the first grid point. -/
theorem part3_run (I : Ins F) (g : Fin 10) (hg : (i 0).val = g.val) (hS : Sound I g)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (hT : arg1.view.read (Elt F) f1 = I.T) (hids : arg2.view.read (Elt F) f2 = I.ids) (hx : arg3.view.read (Elt F) f3 = I.x)
    (hW : arg4.view.read (Elt F) f4 = I.W) (hb : arg5.view.read (Elt F) f5 = I.b) (X : Acc F) :
    iprop((arg1.view.loc (c : Thread nD τ) ↦[arg1.view.set]{fullShare.right} f1 : sProp 𝕄)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ holds c arg6 X)
    ⊢ wp frame (wpE (defs₀ (F := F)) Variants.none (c : Thread nD τ) none) Set.univ
        (k0_part3 (F := F) i arg1 harg1 arg2 harg2 arg3 harg3 arg4 harg4 arg5 harg5 arg6 harg6)
        (fun r => iprop(⌜r = ⟨BitVec.ofNat 32 (i 0).val, I.W, k0_pay8 I.b⟩⌝
          ∗ (arg1.view.loc (c : Thread nD τ) ↦[arg1.view.set]{fullShare.right} f1)
          ∗ (arg2.view.loc (c : Thread nD τ) ↦[arg2.view.set]{fullShare} f2)
          ∗ (arg3.view.loc (c : Thread nD τ) ↦[arg3.view.set]{fullShare} f3)
          ∗ (arg4.view.loc (c : Thread nD τ) ↦[arg4.view.set]{fullShare} f4)
          ∗ (arg5.view.loc (c : Thread nD τ) ↦[arg5.view.set]{fullShare} f5)
          ∗ holds c arg6 (plain I g 0 (fresh g X)))) := by
  have e1 := base_eq i arg1 hT hg 0 (k0_off1_inb i) (k0_off1_eq i)
  have e2 := ids_eq arg2 hids 0 _ inb_S1x10x3200_S1x1x3200_0_0_0 rfl
  have e3 := rows_eq arg3 hx 0 _ inb_S32000x128_S3200x128_0_0 rfl
  have e4 := (View.readAt_full arg4.view f4 inb_S128x128_S128x128_0_0).trans hW
  have e5 := (View.readAt_full arg5.view f5 inb_S1x128_S1x128_0_0).trans hb
  have hc := hS.fits 0
  rw [plain]
  generalize baseW I.T g 0 = bw at e1 hc ⊢
  unfold holds
  have hz := clears_iff g
  rw [← hg] at hz
  by_cases h0 : g = 0
  · have h1 := hz.mpr h0
    rw [fresh, if_pos h0]
    sl_unfold [k0_part3]
    iintro ⟨H1, H2, H3, H4, H5, ⟨%f, %hf, H6⟩⟩
    sl_exec (disch := exact hc)
    sl_step
    isplitr
    · ipureintro; rfl
    isplitl [H1]; · iexact H1
    isplitl [H2]; · iexact H2
    isplitl [H3]; · iexact H3
    isplitl [H4]; · iexact H4
    isplitl [H5]; · iexact H5
    iexists _
    isplitr
    rotate_left
    · iexact H6
    · ipureintro
      exact read_store arg6 _ _ _ bw _ _ _ rfl (View.read_writes_full _ _ _ _ _) _ rfl
  · have h1 := mt hz.mp h0
    rw [fresh, if_neg h0]
    sl_unfold [k0_part3]
    iintro ⟨H1, H2, H3, H4, H5, ⟨%f, %hf, H6⟩⟩
    sl_exec (disch := exact hc)
    sl_step
    isplitr
    · ipureintro; rfl
    isplitl [H1]; · iexact H1
    isplitl [H2]; · iexact H2
    isplitl [H3]; · iexact H3
    isplitl [H4]; · iexact H4
    isplitl [H5]; · iexact H5
    iexists _
    isplitr
    rotate_left
    · iexact H6
    · ipureintro
      exact read_store arg6 f [] X bw _ _ _ rfl hf _ rfl

/-- The ten first windows of a grid point. -/
theorem part10_run (I : Ins F) (g : Fin 10) (hg : (i 0).val = g.val) (hS : Sound I g)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (hT : arg1.view.read (Elt F) f1 = I.T) (hids : arg2.view.read (Elt F) f2 = I.ids) (hx : arg3.view.read (Elt F) f3 = I.x)
    (hW : arg4.view.read (Elt F) f4 = I.W) (hb : arg5.view.read (Elt F) f5 = I.b) (X : Acc F) :
    iprop((arg1.view.loc (c : Thread nD τ) ↦[arg1.view.set]{fullShare.right} f1 : sProp 𝕄)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ holds c arg6 X)
    ⊢ wp frame (wpE (defs₀ (F := F)) Variants.none (c : Thread nD τ) none) Set.univ
        (k0_part10 (F := F) i arg1 harg1 arg2 harg2 arg3 harg3 arg4 harg4 arg5 harg5 arg6 harg6)
        (fun r => iprop(⌜∃ v290 : BitVec 32, r = ⟨BitVec.ofNat 32 (i 0).val, I.W, k0_pay8 I.b, flagW I.T g, v290, 10000#32, 0#32⟩⌝
          ∗ (arg1.view.loc (c : Thread nD τ) ↦[arg1.view.set]{fullShare.right} f1)
          ∗ (arg2.view.loc (c : Thread nD τ) ↦[arg2.view.set]{fullShare} f2)
          ∗ (arg3.view.loc (c : Thread nD τ) ↦[arg3.view.set]{fullShare} f3)
          ∗ (arg4.view.loc (c : Thread nD τ) ↦[arg4.view.set]{fullShare} f4)
          ∗ (arg5.view.loc (c : Thread nD τ) ↦[arg5.view.set]{fullShare} f5)
          ∗ holds c arg6 (plains I g X))) := by
  sl_unfold [k0_part10]
  unfold k0_part10_skel
  rw [Idealize.SL.Sem.wp_bind]
  iintro ⟨H1, H2, H3, H4, H5, H6⟩
  iapply (wp_wand_r Idealize.ShloMosaic.frame (wpE (defs₀ (F := F)) Variants.none (c : Thread nD τ) none) Set.univ)
  isplitl [H1 H2 H3 H4 H5 H6]
  · iapply (part3_run c i arg1 harg1 arg2 harg2 arg3 harg3 arg4 harg4 arg5 harg5 arg6 harg6 I g hg hS f1 f2 f3 f4 f5 hT hids hx hW hb X)
    isplitl [H1]; · iexact H1
    isplitl [H2]; · iexact H2
    isplitl [H3]; · iexact H3
    isplitl [H4]; · iexact H4
    isplitl [H5]; · iexact H5
    iexact H6
  iintro %r ⟨%hr, H1, H2, H3, H4, H5, H6⟩
  subst hr
  have b1 := base_eq i arg1 hT hg 1 (k0_off3_inb i) (k0_off3_eq i)
  have b2 := base_eq i arg1 hT hg 2 (k0_off5_inb i) (k0_off5_eq i)
  have b3 := base_eq i arg1 hT hg 3 (k0_off7_inb i) (k0_off7_eq i)
  have b4 := base_eq i arg1 hT hg 4 (k0_off9_inb i) (k0_off9_eq i)
  have b5 := base_eq i arg1 hT hg 5 (k0_off11_inb i) (k0_off11_eq i)
  have b6 := base_eq i arg1 hT hg 6 (k0_off13_inb i) (k0_off13_eq i)
  have b7 := base_eq i arg1 hT hg 7 (k0_off15_inb i) (k0_off15_eq i)
  have b8 := base_eq i arg1 hT hg 8 (k0_off17_inb i) (k0_off17_eq i)
  have b9 := base_eq i arg1 hT hg 9 (k0_off19_inb i) (k0_off19_eq i)
  have bf : arg1.view.readAt (Elt F) (Rect.unit (s := S210) (k0_off21 i) S1.size (k0_off21_inb i)).toLoadRect f1 = fun _ => flagW I.T g :=
    word_eq arg1 hT (k0_off21_inb i) ⟨200 + g.val, by omega⟩ (by rw [k0_off21_eq, hg, Nat.add_comm])
  have x1 := rows_eq arg3 hx 1 _ inb_S32000x128_S3200x128_3200_0 rfl
  have x2 := rows_eq arg3 hx 2 _ inb_S32000x128_S3200x128_6400_0 rfl
  have x3 := rows_eq arg3 hx 3 _ inb_S32000x128_S3200x128_9600_0 rfl
  have x4 := rows_eq arg3 hx 4 _ inb_S32000x128_S3200x128_12800_0 rfl
  have x5 := rows_eq arg3 hx 5 _ inb_S32000x128_S3200x128_16000_0 rfl
  have x6 := rows_eq arg3 hx 6 _ inb_S32000x128_S3200x128_19200_0 rfl
  have x7 := rows_eq arg3 hx 7 _ inb_S32000x128_S3200x128_22400_0 rfl
  have x8 := rows_eq arg3 hx 8 _ inb_S32000x128_S3200x128_25600_0 rfl
  have x9 := rows_eq arg3 hx 9 _ inb_S32000x128_S3200x128_28800_0 rfl
  have s1 := ids_eq arg2 hids 1 _ inb_S1x10x3200_S1x1x3200_0_1_0 rfl
  have s2 := ids_eq arg2 hids 2 _ inb_S1x10x3200_S1x1x3200_0_2_0 rfl
  have s3 := ids_eq arg2 hids 3 _ inb_S1x10x3200_S1x1x3200_0_3_0 rfl
  have s4 := ids_eq arg2 hids 4 _ inb_S1x10x3200_S1x1x3200_0_4_0 rfl
  have s5 := ids_eq arg2 hids 5 _ inb_S1x10x3200_S1x1x3200_0_5_0 rfl
  have s6 := ids_eq arg2 hids 6 _ inb_S1x10x3200_S1x1x3200_0_6_0 rfl
  have s7 := ids_eq arg2 hids 7 _ inb_S1x10x3200_S1x1x3200_0_7_0 rfl
  have s8 := ids_eq arg2 hids 8 _ inb_S1x10x3200_S1x1x3200_0_8_0 rfl
  have s9 := ids_eq arg2 hids 9 _ inb_S1x10x3200_S1x1x3200_0_9_0 rfl
  have hc := hS.fits
  unfold holds
  icases H6 with ⟨%f, %hf, H6⟩
  sl_exec (disch := exact hc _)
  sl_step
  isplitr
  · ipureintro; exact ⟨_, rfl⟩
  isplitl [H1]; · iexact H1
  isplitl [H2]; · iexact H2
  isplitl [H3]; · iexact H3
  isplitl [H4]; · iexact H4
  isplitl [H5]; · iexact H5
  iexists _
  isplitr
  rotate_left
  · iexact H6
  ipureintro
  have t1 := read_store arg6 f [] _ (baseW I.T g 1) (hit (baseW I.T g 1) (tileIds I.ids 1)) (tileY I.x I.W I.b 1) (hc 1) rfl hf _ rfl
  have t2 := read_store arg6 f _ _ (baseW I.T g 2) (hit (baseW I.T g 2) (tileIds I.ids 2)) (tileY I.x I.W I.b 2) (hc 2) rfl t1 _ rfl
  have t3 := read_store arg6 f _ _ (baseW I.T g 3) (hit (baseW I.T g 3) (tileIds I.ids 3)) (tileY I.x I.W I.b 3) (hc 3) rfl t2 _ rfl
  have t4 := read_store arg6 f _ _ (baseW I.T g 4) (hit (baseW I.T g 4) (tileIds I.ids 4)) (tileY I.x I.W I.b 4) (hc 4) rfl t3 _ rfl
  have t5 := read_store arg6 f _ _ (baseW I.T g 5) (hit (baseW I.T g 5) (tileIds I.ids 5)) (tileY I.x I.W I.b 5) (hc 5) rfl t4 _ rfl
  have t6 := read_store arg6 f _ _ (baseW I.T g 6) (hit (baseW I.T g 6) (tileIds I.ids 6)) (tileY I.x I.W I.b 6) (hc 6) rfl t5 _ rfl
  have t7 := read_store arg6 f _ _ (baseW I.T g 7) (hit (baseW I.T g 7) (tileIds I.ids 7)) (tileY I.x I.W I.b 7) (hc 7) rfl t6 _ rfl
  have t8 := read_store arg6 f _ _ (baseW I.T g 8) (hit (baseW I.T g 8) (tileIds I.ids 8)) (tileY I.x I.W I.b 8) (hc 8) rfl t7 _ rfl
  have t9 := read_store arg6 f _ _ (baseW I.T g 9) (hit (baseW I.T g 9) (tileIds I.ids 9)) (tileY I.x I.W I.b 9) (hc 9) rfl t8 _ rfl
  exact t9

/-- A whole grid point. -/
theorem body_run (I : Ins F) (g : Fin 10) (hg : (i 0).val = g.val) (hS : Sound I g)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (hT : arg1.view.read (Elt F) f1 = I.T) (hids : arg2.view.read (Elt F) f2 = I.ids) (hx : arg3.view.read (Elt F) f3 = I.x)
    (hW : arg4.view.read (Elt F) f4 = I.W) (hb : arg5.view.read (Elt F) f5 = I.b) (X : Acc F) :
    iprop((arg1.view.loc (c : Thread nD τ) ↦[arg1.view.set]{fullShare.right} f1 : sProp 𝕄)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ holds c arg6 X)
    ⊢ wp frame (wpE (defs₀ (F := F)) Variants.none (c : Thread nD τ) none) Set.univ
        (cc0__fused_kernel (F := F) i arg1 harg1 arg2 harg2 arg3 harg3 arg4 harg4 arg5 harg5 arg6 harg6)
        (fun _ => iprop((arg1.view.loc (c : Thread nD τ) ↦[arg1.view.set]{fullShare.right} f1)
          ∗ (arg2.view.loc (c : Thread nD τ) ↦[arg2.view.set]{fullShare} f2)
          ∗ (arg3.view.loc (c : Thread nD τ) ↦[arg3.view.set]{fullShare} f3)
          ∗ (arg4.view.loc (c : Thread nD τ) ↦[arg4.view.set]{fullShare} f4)
          ∗ (arg5.view.loc (c : Thread nD τ) ↦[arg5.view.set]{fullShare} f5)
          ∗ holds c arg6 (pointStep I g X))) := by
  sl_unfold [cc0__fused_kernel]
  unfold cc0__fused_kernel_skel
  rw [Idealize.SL.Sem.wp_bind]
  iintro ⟨H1, H2, H3, H4, H5, H6⟩
  iapply (wp_wand_r Idealize.ShloMosaic.frame (wpE (defs₀ (F := F)) Variants.none (c : Thread nD τ) none) Set.univ)
  isplitl [H1 H2 H3 H4 H5 H6]
  · iapply (part10_run c i arg1 harg1 arg2 harg2 arg3 harg3 arg4 harg4 arg5 harg5 arg6 harg6 I g hg hS f1 f2 f3 f4 f5 hT hids hx hW hb X)
    isplitl [H1]; · iexact H1
    isplitl [H2]; · iexact H2
    isplitl [H3]; · iexact H3
    isplitl [H4]; · iexact H4
    isplitl [H5]; · iexact H5
    iexact H6
  iintro %r ⟨%hr, H1, H2, H3, H4, H5, H6⟩
  obtain ⟨v290, hr⟩ := hr
  subst hr
  rw [pointStep]
  have ht := over_trip c i arg1 harg1 arg2 harg2 arg3 harg3 arg4 harg4 arg5 harg5 arg6 harg6 I g hg hS f1 f2 f3 hT hids hx
  have hsucc : ∀ k, runUpTo (over I g) (k + 1) (plains I g X) = over I g (Fin.ofNat 10 k) (runUpTo (over I g) k (plains I g X)) := fun _ => rfl
  have h10 : k0_t1_loop.trips = 10 := by decide +kernel
  have hzero : runUpTo (over I g) 0 (plains I g X) = plains I g X := rfl
  generalize flagW I.T g = v288
  rw [← hzero]
  by_cases h2 : k0_cond2 v288 = 1#1
  · rw [if_pos h2]
    sl_exec
    sl_for (fun k _ => iprop((arg1.view.loc (c : Thread nD τ) ↦[arg1.view.set]{fullShare.right} f1 : sProp 𝕄)
          ∗ (arg2.view.loc (c : Thread nD τ) ↦[arg2.view.set]{fullShare} f2)
          ∗ (arg3.view.loc (c : Thread nD τ) ↦[arg3.view.set]{fullShare} f3)
          ∗ holds c arg6 (runUpTo (over I g) k (plains I g X)))) $$ [H1 H2 H3 H6]
    case region =>
      intro k acc
      sl_respell []
      rw [hsucc]
      exact ht v288 h2 k (Fin.ofNat 10 k.val) (Nat.mod_eq_of_lt (h10 ▸ k.isLt)) (runUpTo (over I g) k.val (plains I g X))
    · isplitl [H1]; · iexact H1
      isplitl [H2]; · iexact H2
      isplitl [H3]; · iexact H3
      iexact H6
    iintro %_ ⟨H1, H2, H3, H6⟩
    rw [show Scf.trips k0_t1_loop.lb k0_t1_loop.ub k0_t1_loop.st = 10 from h10]
    sl_exec
    sl_step
    isplitl [H1]; · iexact H1
    isplitl [H2]; · iexact H2
    isplitl [H3]; · iexact H3
    isplitl [H4]; · iexact H4
    isplitl [H5]; · iexact H5
    iexact H6
  · rw [if_neg h2]
    sl_exec
    sl_step
    isplitl [H1]; · iexact H1
    isplitl [H2]; · iexact H2
    isplitl [H3]; · iexact H3
    isplitl [H4]; · iexact H4
    isplitl [H5]; · iexact H5
    iexact H6

end Args

end Cert.KernelIdeal.Seg
-- ==== Proof.Run.lean ====
/-
  Hand-written. The kernel's run: ten grid points, each `pointStep` (Steps.lean) on the accumulator, from the operands
  and the word table the host operations leave. Every run ends with the result the last point's accumulator, the
  arguments as they were and every counter at zero.
-/
module

public import proofs.«01_k».proof.Proof.Body
public import Idealize.ShloMosaic.Lib.Pipeline.Frame
public import Idealize.ShloMosaic.Lib.Pipeline.Value

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- Contents of a core's buffers. -/
abbrev Bufs (F : FTy → Type) (c : Dev nD) : Type := (b : Ref sig .tc) → Buf (Elt F) ((c : Thread nD τ).loc b)

/-- Any contents of the word table are admissible. -/
def tables {c : Dev nD} (V : Bufs F c) : (pcfg0 (F := F)).Adm := ⟨fun k => V (pre0.ref k), trivial⟩

section Point

variable (c : Dev nD) (V : Bufs F c)

/-- What input window `w` reads at grid point `t`. -/
def inAt (w : Fin 5) (t : Fin grid0.N) : (win0 (tables V) w).block.Idx → Elt F (win0 (tables V) w).elt :=
  ((win0 (tables V) w).blk t).view.read (Elt F) (V (Pipeline.arrRef spec0 w))

/-- What grid point `t` reads. -/
def insAt (t : Fin grid0.N) : Ins F where
  T := V (pre0.ref 0)
  ids := inAt c V 0 t
  x := inAt c V 1 t
  W := inAt c V 2 t
  b := inAt c V 3 t

/-- Grid point number `g`. -/
def pt (g : Fin 10) : Fin grid0.N := ⟨g.val, N_0.symm ▸ g.isLt⟩

/-- The accumulator after the first `k` grid points. -/
def outAt (k : ℕ) : Acc F := runUpTo (fun g X => pointStep (insAt c V (pt g)) g X) k (V main_v20)

end Point

/-- The pipeline's proof data: every input's buffer keeps its block, the accumulator's holds what the points so far
    leave. -/
def dats (V : (c : Dev nD) → Bufs F c) (_ : Fin 1) (c : Dev nD) : Dat τ (Elt F) Unit ℕ (UR sig nD τ) ℕ (cfg0 (tables (V 0))) c where
  A w := V c (Pipeline.arrRef spec0 w)
  after w t := match w with
    | 0 => ((win0 (tables (V 0)) 0).blk t).view.read (Elt F) (V c (Pipeline.arrRef spec0 0))
    | 1 => ((win0 (tables (V 0)) 1).blk t).view.read (Elt F) (V c (Pipeline.arrRef spec0 1))
    | 2 => ((win0 (tables (V 0)) 2).blk t).view.read (Elt F) (V c (Pipeline.arrRef spec0 2))
    | 3 => ((win0 (tables (V 0)) 3).blk t).view.read (Elt F) (V c (Pipeline.arrRef spec0 3))
    | 4 => outAt c (V c) (t.val + 1)
    | ⟨_ + 5, h⟩ => absurd h (Nat.not_lt.2 (Nat.le_add_left _ _))
  Φ _ := iprop(Pipeline.ΦA spec0 c ∗ Pipeline.ΦT pre0 (tables (V 0)).1 c)
  q _ := fullShare
  owed _ := 0

/-- A grid point's coordinate is its number. -/
theorem coord_eq : ∀ t : Fin grid0.N, (grid0.coords t 0).val = t.val := by decide +kernel

section Body

variable (V : (c : Dev nD) → Bufs F c) (c : Dev nD)

/-- A grid point finds its block of segment numbers. -/
theorem before_0 (t) (d) : (dats V 0 c).before 0 t d = inAt c (V c) 0 t :=
  (dats V 0 c).before_in_eq_fetched 0 rfl (fun _ => rfl) (fun _ _ _ => rfl) (fun _ => rfl) t d
/-- A grid point finds its block of rows. -/
theorem before_1 (t) (d) : (dats V 0 c).before 1 t d = inAt c (V c) 1 t :=
  (dats V 0 c).before_in_eq_fetched 1 rfl (fun _ => rfl) (fun _ _ _ => rfl) (fun _ => rfl) t d
/-- A grid point finds the weights. -/
theorem before_2 (t) (d) : (dats V 0 c).before 2 t d = inAt c (V c) 2 t :=
  (dats V 0 c).before_in_eq_fetched 2 rfl (fun _ => rfl) (fun _ _ _ => rfl) (fun _ => rfl) t d
/-- A grid point finds the bias. -/
theorem before_3 (t) (d) : (dats V 0 c).before 3 t d = inAt c (V c) 3 t :=
  (dats V 0 c).before_in_eq_fetched 3 rfl (fun _ => rfl) (fun _ _ _ => rfl) (fun _ => rfl) t d

/-- The result's block is written back at the last point alone. -/
theorem flush_4 (a : (pcfg0 (F := F)).Adm) (t : Fin grid0.N) : (win0 a 4).flush t = decide (t.val = 9) := by
  rcases fin_N0 t with h | h | h | h | h | h | h | h | h | h <;> subst h <;> rfl

/-- The accumulator is never fetched. -/
theorem fetch_4 (a : (pcfg0 (F := F)).Adm) (t : Fin grid0.N) : (win0 a 4).fetch t = false := rfl

/-- A later grid point finds in the accumulator what the points before it left. -/
theorem before_4 (t) (ht : t.val ≠ 0) (d) : (dats V 0 c).before 4 t d = outAt c (V c) t.val := by
  rw [(dats V 0 c).before_of_pos 4 t ht rfl d, if_neg]
  · show outAt c (V c) (t.val - 1 + 1) = _
    rw [Nat.sub_add_cancel (Nat.pos_of_ne_zero ht)]
  · have := flush_4 (F := F) (tables (V 0)) ⟨t.val - 1, Nat.lt_of_le_of_lt (Nat.sub_le _ _) t.isLt⟩
    refine fun h => ?_
    have h2 := this.symm.trans h
    have h3 := t.isLt
    have h4 : (cfg0 (F := F) (tables (V 0))).N = 10 := N_0
    have h5 := of_decide_eq_true h2
    simp only at h5
    omega

/-- A first point's step does not look at what the accumulator held. -/
theorem pointStep_zero (I : Ins F) (X Y : Acc F) : pointStep I 0 X = pointStep I 0 Y := rfl

/-- The tables' share the body is handed, spelled out: the one table, at half the full share. -/
theorem tabs_eq (a : (pcfg0 (F := F)).Adm) :
    (Pipeline.ΦT pre0 a.1 c : sProp 𝕄) = iprop(((c : Thread nD τ).loc (pre0.ref 0)) ↦{fullShare.right} a.1 0) := by
  unfold Pipeline.ΦT Pipeline.prefHeld
  exact bigSep_univ_of_subsingleton (0 : Fin 1)

/-- The body at a grid point makes the accumulator the next one, whatever the first point finds there. -/
theorem step_outAt (t : Fin grid0.N) (d) :
    pointStep (insAt c (V c) t) ⟨t.val, N_0 ▸ t.isLt⟩ ((dats V 0 c).before 4 t d) = outAt c (V c) (t.val + 1) := by
  have h10 : t.val < 10 := N_0 ▸ t.isLt
  have hn : Fin.ofNat 10 t.val = ⟨t.val, h10⟩ := Fin.ext (Nat.mod_eq_of_lt h10)
  have hs : outAt c (V c) (t.val + 1) = pointStep (insAt c (V c) (pt (Fin.ofNat 10 t.val))) (Fin.ofNat 10 t.val) (outAt c (V c) t.val) := rfl
  rw [hs, hn, show pt ⟨t.val, h10⟩ = t from rfl]
  by_cases h0 : t.val = 0
  · rw [show (⟨t.val, h10⟩ : Fin 10) = 0 from Fin.ext h0]
    exact pointStep_zero _ _ _
  · rw [before_4 V c t h0 d]

/-- A grid point run on buffers known by what they read: the inputs' stay, the accumulator's steps. -/
theorem point_run (i : grid0.Coords)
    (arg2 : Memref sig .tc .vmem S1x10x3200 .i32) (harg2 : arg2.IsWhole) (arg3 : Memref sig .tc .vmem S32000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S10000x128 .f32) (harg6 : arg6.IsWhole)
    (I : Ins F) (g : Fin 10) (hg : (i 0).val = g.val) (hS : Sound I g) (a : (pcfg0 (F := F)).Adm) (hT : a.1 0 = I.T) (A O : sProp 𝕄)
    (B2 : (S1x10x3200.Idx → BitVec 32) → S1x10x3200.Idx → BitVec 32) (h2 : ∀ d, B2 d = I.ids)
    (B3 : (S32000x128.Idx → Elt F .f32) → S32000x128.Idx → Elt F .f32) (h3 : ∀ d, B3 d = I.x)
    (B4 : (S128x128.Idx → Elt F .f32) → S128x128.Idx → Elt F .f32) (h4 : ∀ d, B4 d = I.W)
    (B5 : (S1x128.Idx → Elt F .f32) → S1x128.Idx → Elt F .f32) (h5 : ∀ d, B5 d = I.b)
    (B6 : Acc F → Acc F) (Y : Acc F) (h6 : ∀ d, pointStep I g (B6 d) = Y) :
    iprop((A ∗ Pipeline.ΦT pre0 a.1 c) ∗ O ∗ (∃ d, owns (c : Thread nD τ) arg2 fullShare (B2 d)) ∗ (∃ d, owns (c : Thread nD τ) arg3 fullShare (B3 d))
      ∗ (∃ d, owns (c : Thread nD τ) arg4 fullShare (B4 d)) ∗ (∃ d, owns (c : Thread nD τ) arg5 fullShare (B5 d)) ∗ (∃ d, owns (c : Thread nD τ) arg6 fullShare (B6 d)))
    ⊢ wp frame (wpE (defs₀ (F := F)) Variants.none (c : Thread nD τ) none) Set.univ
        (cc0__fused_kernel (F := F) i (Memref.whole main_v17) (Memref.isWhole_whole _) arg2 harg2 arg3 harg3 arg4 harg4 arg5 harg5 arg6 harg6)
        (fun _ => iprop((A ∗ Pipeline.ΦT pre0 a.1 c) ∗ O ∗ owns (c : Thread nD τ) arg2 fullShare I.ids ∗ owns (c : Thread nD τ) arg3 fullShare I.x
          ∗ owns (c : Thread nD τ) arg4 fullShare I.W ∗ owns (c : Thread nD τ) arg5 fullShare I.b ∗ owns (c : Thread nD τ) arg6 fullShare Y)) := by
  simp only [h2, h3, h4, h5]
  rw [tabs_eq c a]
  unfold owns
  iintro ⟨⟨HA, HT⟩, HO, ⟨%d2, %f2, %e2, H2⟩, ⟨%d3, %f3, %e3, H3⟩, ⟨%d4, %f4, %e4, H4⟩, ⟨%d5, %f5, %e5, H5⟩, ⟨%d6, H6⟩⟩
  have hb := body_run c i (Memref.whole main_v17) (Memref.isWhole_whole _) arg2 harg2 arg3 harg3 arg4 harg4 arg5 harg5 arg6 harg6
    I g hg hS (a.1 0) f2 f3 f4 f5 hT e2 e3 e4 e5 (B6 d6)
  rw [h6 d6, View.set_whole] at hb
  unfold holds at hb
  iapply (wp_wand_r Idealize.ShloMosaic.frame (wpE (defs₀ (F := F)) Variants.none (c : Thread nD τ) none) Set.univ)
  isplitl [HT H2 H3 H4 H5 H6]
  · iapply hb
    isplitl [HT]; · iexact HT
    isplitl [H2]; · iexact H2
    isplitl [H3]; · iexact H3
    isplitl [H4]; · iexact H4
    isplitl [H5]; · iexact H5
    iexact H6
  iintro %_ ⟨HT, H2, H3, H4, H5, H6⟩
  isplitl [HA HT]
  · isplitl [HA]; · iexact HA
    iexact HT
  isplitl [HO]; · iexact HO
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexact H6

/-- The body at grid point `t`, on the buffers the pipeline hands it. -/
theorem body_ok (hS : ∀ g, Sound (insAt c (V c) (pt g)) g) (hT : (tables (V 0)).1 0 = (V c (pre0.ref 0))) :
    Pipeline.BodyObligationLoose (dats V 0 c) (defs₀ (F := F)) Variants.none () Set.univ := by
  intro t
  have ht10 : t.val < 10 := N_0 ▸ t.isLt
  rw [bigSep_W0, bigSep_W0]
  exact point_run c (grid0.coords t)
    (spec0_0.stage ((cfg0 (tables (V 0))).slots t 0)) (hstage0_0 (((cfg0 (tables (V 0))).slots t 0).cast nbuf0_0))
    (spec0_1.stage ((cfg0 (tables (V 0))).slots t 1)) (hstage0_1 (((cfg0 (tables (V 0))).slots t 1).cast nbuf0_1))
    (spec0_2.stage ((cfg0 (tables (V 0))).slots t 2)) (hstage0_2 (((cfg0 (tables (V 0))).slots t 2).cast nbuf0_2))
    (spec0_3.stage ((cfg0 (tables (V 0))).slots t 3)) (hstage0_3 (((cfg0 (tables (V 0))).slots t 3).cast nbuf0_3))
    (spec0_4.stage ((cfg0 (tables (V 0))).slots t 4)) (hstage0_4 (((cfg0 (tables (V 0))).slots t 4).cast nbuf0_4))
    (insAt c (V c) t) ⟨t.val, ht10⟩ (coord_eq t) (hS ⟨t.val, ht10⟩) (tables (V 0)) hT (Pipeline.ΦA spec0 c) ((dats V 0 c).owesAt () t.castSucc)
    _ (before_0 V c t) _ (before_1 V c t) _ (before_2 V c t) _ (before_3 V c t) _ _ (step_outAt V c t)

end Body

/-- The host operations before the kernel, in order. -/
abbrev hostOps : List (HloOp τ sig (Elt F)) := [hostOps0, hostOps0_1, hostOps0_2].flatten

/-- What the kernel finds in a core's buffers: the launch memory after the host operations. -/
def found (m : (ℓ : Loc nD τ sig) → Buf (Elt F) ℓ) (c : Dev nD) : Bufs F c := fun b => StableHlo.after (hostOps (F := F)) (fun b => m (c, b)) b

variable (m : (ℓ : Loc nD τ sig) → Buf (Elt F) ℓ)

/-- Every buffer the host operations write, in order. -/
abbrev written : List (Ref sig .tc) :=
  [main_v0, main_c, main_call0_v0, main_call0_v1, main_call0_v2, main_call0_v3, main_call0_v4, main_call0_v5, main_call0_v6, main_call0_v7,
    main_call0_v8, main_call0_c, main_call0_v9, main_call0_v10, main_call0_v11, main_call0_c_0, main_call0_v12, main_call0_v13, main_v1,
    main_c_0, main_v2, main_v3, main_c_1, main_v4, main_v5, main_v6, main_c_2, main_v7, main_v8, main_v9, main_v10, main_c_3, main_v11,
    main_v12, main_v13, main_v14, main_v15, main_v16, main_v17, main_v18, main_v19]

/-- A buffer the host operations do not write is found as launched. -/
theorem found_kept (c : Dev nD) (b : Ref sig .tc) (hb : b ∉ written) : found m c b = m ((c : Thread nD τ).loc b) :=
  StableHlo.after_of_writes_sub (W := written) _ _ (StableHlo.forall_writes_sub_of_map rfl) hb

/-- The block of the result's window is the whole result. -/
theorem block_4 (a : (pcfg0 (F := F)).Adm) (j : S10000x128.Idx) : ((win0 a 4).blk t0_9).view.emb j = j := by
  funext d
  apply Fin.ext
  have h0 : ∀ d, cc0_transform_4 (grid0.coords t0_9) d = 0 := by decide +kernel
  show cc0_transform_4 (grid0.coords t0_9) d * S10000x128.size d + 1 * (j d).val = (j d).val
  rw [h0 d]
  omega

/-- What the last grid point writes back is the accumulator. -/
theorem flushed_eq (V : (c : Dev nD) → Bufs F c) (c : Dev nD) (t : Fin grid0.N) (ht : t.val = 9) :
    (dats V 0 c).flushed 4 t = ((win0 (tables (V 0)) 4).blk t).view.read (Elt F) (outAt c (V c) 10) := by
  obtain rfl : t = t0_9 := Fin.ext ht
  funext j
  exact congrArg (outAt c (V c) 10) (block_4 (tables (V 0)) j).symm

set_option maxHeartbeats 1000000 in
/-- The whole run. -/
theorem run (ρ : Dev nD → PrngReg) (hS : ∀ c g, Sound (insAt c (found m c) (pt g)) g) :
    θ_run defs (onTc (τ := τ) (main (F := F))) ⟨m, fun _ => 0, ρ⟩ (fun r => (∀ c : Dev nD,
      r.2.mem ((c : Thread nD τ).loc main_v20) = outAt c (found m c) 10
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  have hT : ∀ c : Dev nD, (tables (found m 0)).1 0 = found m c (pre0.ref 0) := fun c => by rw [Subsingleton.elim c 0]; rfl
  have hmain := Pipeline.hmainP_prefixes (Ix := Unit) (Name := ℕ) (U := UR sig nD τ) (Lvl := ℕ) pcfgs 0 (defs₀ (F := F)) Variants.none m (main (F := F))
    [hostOps0, hostOps0_1, hostOps0_2] ⟨hostOps0_sub, hostOps0_1_sub, hostOps0_2_sub⟩ ⟨by repeat' first | exact rfl | apply And.intro, by repeat' first | exact rfl | apply And.intro, by repeat' first | exact rfl | apply And.intro⟩ (fun c => main_chain c)
  refine Pipeline.θ_run_frameP pcfgs (fun _ => tables (found m 0)) (dats (found m)) 0 launch0 (defs₀ (F := F)) Variants.none m ρ main
    (fun c => body_ok (found m) c (hS c) (hT c)) ?_ (fun _ _ => rfl) (found m) hmain (fun _ _ => rfl) ?_ (fun _ _ => rfl) _ ?_
  · intro c w
    unfold Dat.share
    split <;> rfl
  · intro c k
    rw [Subsingleton.elim c 0]
    rfl
  · rintro r ⟨h, hs⟩
    refine ⟨fun c => ⟨?_, ?_, ?_, ?_, ?_⟩, hs⟩
    · exact ((h c).1 4).trans ((dats (found m) 0 c).arrAt_eq_of_cover 4 (outAt c (found m c) 10)
        (fun t ht => flushed_eq (found m) c t (of_decide_eq_true ((flush_4 _ t).symm.trans ht))) (fun i => ⟨t0_9, rfl, Finset.mem_map.mpr ⟨i, Finset.mem_univ _, block_4 _ i⟩⟩))
    · exact (((h c).1 1).trans ((dats (found m) 0 c).arrAt_in 1 rfl _)).trans (found_kept m c main_arg0 (by decide))
    · exact ((h c).2 main_arg1 (Pipeline.mem_restRefs_of (win := spec0) main_arg1 (by decide) (by decide))).trans (found_kept m c main_arg1 (by decide))
    · exact (((h c).1 2).trans ((dats (found m) 0 c).arrAt_in 2 rfl _)).trans (found_kept m c main_arg2 (by decide))
    · exact ((h c).2 main_arg3 (Pipeline.mem_restRefs_of (win := spec0) main_arg3 (by decide) (by decide))).trans (found_kept m c main_arg3 (by decide))

end Cert.KernelIdeal.Seg
-- ==== Proof.Words.lean ====
/-
  Hand-written. The kernel's 32-bit words read as natural numbers: the start of a window, the number of further windows,
  the guards, and the least segment number still to serve.
-/
module

public import proofs.«01_k».proof.Proof.Steps
public import Idealize.ShloMosaic.Lib.Affine
public import Idealize.ShloMosaic.Lib.LoopRemainder
public import Idealize.ShloMosaic.Lib.Pipeline.Value
public import Idealize.ShloMosaic.Lib.ValueIdxCore
public import Idealize.ShloMosaic.Lib.ValueIdxCoords
public import Idealize.ShloMosaic.PureOps.Reduce

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx

/-- A small natural number as a word reads back, signed, as itself. -/
theorem small (n : ℕ) (h : n < 2 ^ 31) : Affine.IsInt (BitVec.ofNat 32 n) (n : ℤ) := Affine.ofNat n ⟨rfl, h⟩

/-- The same as an equation. -/
theorem toInt_small (n : ℕ) (h : n < 2 ^ 31) : (BitVec.ofNat 32 n).toInt = n := by
  rw [BitVec.toInt_ofNat', Int.bmod_eq_of_le] <;> omega

/-- Small natural numbers that are equal as words are equal. -/
theorem ofNat_inj_small {m n : ℕ} (hm : m < 2 ^ 31) (hn : n < 2 ^ 31) : BitVec.ofNat 32 m = BitVec.ofNat 32 n ↔ m = n := by
  rw [← BitVec.toInt_inj, toInt_small m hm, toInt_small n hn]
  omega

/-- `curOf` of a segment number: the number capped at 9872, rounded down to a multiple of 8. -/
theorem curOf_eq (v : ℕ) (h : v ≤ 10000) : curOf (BitVec.ofNat 32 v) = BitVec.ofNat 32 (min v 9872 / 8 * 8) := by
  have key : ∀ a : Fin 101, ∀ b : Fin 100, curOf (BitVec.ofNat 32 (100 * a.val + b.val)) = BitVec.ofNat 32 (min (100 * a.val + b.val) 9872 / 8 * 8) := by
    decide +kernel
  have e : 100 * (v / 100) + v % 100 = v := Nat.div_add_mod v 100
  have := key ⟨v / 100, by omega⟩ ⟨v % 100, Nat.mod_lt _ (by omega)⟩
  simpa only [e] using this

/-- A window that starts at or before 9872 fits. -/
theorem fits_of (w : ℕ) (h : w ≤ 9872) : Fits (BitVec.ofNat 32 w) := by
  have e : (Scalar.indexCast (BitVec.ofNat 32 w)).toNat = w := Affine.nat_eq (Affine.indexCast (small w (by omega))) w rfl
  intro a
  unfold k0_off2
  match a with
  | 0 => show (Scalar.indexCast (BitVec.ofNat 32 w)).toNat + 128 ≤ 10000; omega
  | 1 => show 0 + 128 ≤ 128; omega

/-- The window at `w` starts at row `w`, column 0. -/
theorem off_row (w : ℕ) (h : w ≤ 9872) : k0_off2 (BitVec.ofNat 32 w) = ![w, 0] := by
  have e : (Scalar.indexCast (BitVec.ofNat 32 w)).toNat = w := Affine.nat_eq (Affine.indexCast (small w (by omega))) w rfl
  unfold k0_off2
  show ![(Scalar.indexCast (BitVec.ofNat 32 w)).toNat, 0] = _
  rw [e]

/-- A further window's start plus its height is a small word again. -/
theorem add128 (w : ℕ) (h : w ≤ 9872) : Scalar.addi (BitVec.ofNat 32 w) 128#32 = BitVec.ofNat 32 (w + 128) :=
  Affine.eq_of (Affine.addi (e := (w : ℤ) + 128) (small w (by omega)) (Affine.ofNat (e := 128) 128 ⟨rfl, by omega⟩) ⟨rfl, by omega, by omega⟩) (w + 128) (by push_cast; rfl)

/-- The overflow branch is taken where the flag is not 0. -/
theorem cond2_iff (v : BitVec 32) : k0_cond2 v = 1#1 ↔ v ≠ 0#32 := by
  unfold k0_cond2
  show Scalar.cmpi .ne (Scalar.extui (Scalar.cmpi .ne v 0#32)) 0#32 = 1#1 ↔ _
  rw [Scalar.guard_iff]
  exact IntOp.cmpi_ne

/-- A trip runs a window where the first row not served yet is at most the last segment. -/
theorem cond4_iff (l w : ℕ) (hl : l < 2 ^ 31) (hw : w < 2 ^ 31) : k0_cond4 (BitVec.ofNat 32 l) (BitVec.ofNat 32 w) = 1#1 ↔ w ≤ l := by
  unfold k0_cond4
  show Scalar.cmpi .ne (Scalar.extui (Scalar.cmpi .sge (BitVec.ofNat 32 l) (BitVec.ofNat 32 w))) 0#32 = 1#1 ↔ _
  rw [Scalar.guard_iff, Scalar.cmpi, IntOp.cmpi_sge, toInt_small _ hl, toInt_small _ hw]
  omega

/-- A sub-tile needs further windows where its last segment is past its first window. -/
theorem cond3_iff (b l : ℕ) (hb : b ≤ 9872) (hl : l < 10000) : k0_cond3 (BitVec.ofNat 32 b) (BitVec.ofNat 32 l) = 1#1 ↔ b + 128 ≤ l := by
  unfold k0_cond3
  show Scalar.cmpi .ne (Scalar.extui (Scalar.cmpi .sge (BitVec.ofNat 32 l) (Scalar.addi (BitVec.ofNat 32 b) 128#32))) 0#32 = 1#1 ↔ _
  rw [Scalar.guard_iff, Scalar.cmpi, IntOp.cmpi_sge, add128 b hb, toInt_small _ (by omega), toInt_small _ (by omega)]
  omega

/-- The words of the counted loop of further windows, read as integers. -/
theorem loop2_ub (b l : ℕ) (hl : l < 10000) (h : b + 128 ≤ l) :
    Affine.IsInt (k0_t2_loop (BitVec.ofNat 32 b) (BitVec.ofNat 32 l)).ub (((l - b) / 128 : ℕ) : ℤ) := by
  have h1 : Affine.IsInt (Scalar.subi (BitVec.ofNat 32 l) (BitVec.ofNat 32 b)) ((l : ℤ) - b) :=
    Affine.subi (small l (by omega)) (small b (by omega)) ⟨rfl, by omega, by omega⟩
  have h2 := Affine.divsi (e := ((l : ℤ) - b) / 128) h1 (Affine.ofNat (e := 128) 128 ⟨rfl, by omega⟩) ⟨rfl, by omega, by omega⟩
  have h3 := Affine.subi (e := ((l : ℤ) - b) / 128) h2 (Affine.ofNat (e := 0) 0 ⟨rfl, by omega⟩) ⟨by omega, by omega, by omega⟩
  have h4 := Affine.divsi_one (e := ((l : ℤ) - b) / 128) h3 (Affine.ofNat (e := 1) 1 ⟨rfl, by omega⟩) ⟨rfl, rfl⟩
  have h5 := Affine.muli (e := ((l : ℤ) - b) / 128) h4 (Affine.ofNat (e := 1) 1 ⟨rfl, by omega⟩) ⟨by omega, by omega, by omega⟩
  have h6 := Affine.addi (e := ((l : ℤ) - b) / 128) (Affine.ofNat (e := 0) 0 ⟨rfl, by omega⟩) h5 ⟨by omega, by omega, by omega⟩
  exact Affine.relit h6 (by omega)

/-- The loop of further windows makes `(l - b) / 128` trips. -/
theorem loop2_trips (b l : ℕ) (hl : l < 10000) (h : b + 128 ≤ l) : (k0_t2_loop (BitVec.ofNat 32 b) (BitVec.ofNat 32 l)).trips = (l - b) / 128 :=
  Affine.trips_eq (Affine.ofNat (e := 0) 0 ⟨rfl, by omega⟩) (loop2_ub b l hl h) (Affine.ofNat (e := 1) 1 ⟨rfl, by omega⟩) _ ⟨by omega, by omega⟩

/-- The loop of further windows is in range. -/
theorem loop2_ok (b l : ℕ) (hl : l < 10000) (h : b + 128 ≤ l) : (k0_t2_loop (BitVec.ofNat 32 b) (BitVec.ofNat 32 l)).OK :=
  Affine.ok (Affine.ofNat (e := 0) 0 ⟨rfl, by omega⟩) (loop2_ub b l hl h) (Affine.ofNat (e := 1) 1 ⟨rfl, by omega⟩) ⟨by omega, by omega⟩

/-- The remainder loop makes no trip. -/
theorem loop3_trips (b l : BitVec 32) : (k0_t3_loop b l).trips = 0 := Scf.rem_trips _ _
/-- The remainder loop is in range. -/
theorem loop3_ok (b l : BitVec 32) : (k0_t3_loop b l).OK := Scf.rem_ok _ _

/-! ## The least segment number still to serve -/

/-- A fold of the signed minimum is below every word folded, and is the start or one of them. -/
theorem fold_min {ι : Type} [DecidableEq ι] (s : Finset ι) (f : ι → BitVec 32) (b : BitVec 32) :
    (∀ i ∈ s, (s.fold IntOp.minsi b f).toInt ≤ (f i).toInt) ∧ (s.fold IntOp.minsi b f = b ∨ ∃ i ∈ s, s.fold IntOp.minsi b f = f i) := by
  induction s using Finset.induction_on with
  | empty => exact ⟨fun i hi => absurd hi (Finset.notMem_empty i), .inl (Finset.fold_empty)⟩
  | insert a s ha ih =>
    rw [Finset.fold_insert ha]
    obtain ⟨h1, h2⟩ := ih
    by_cases hlt : (f a).toInt < (s.fold IntOp.minsi b f).toInt
    · have e : IntOp.minsi (f a) (s.fold IntOp.minsi b f) = f a := if_pos (decide_eq_true hlt)
      rw [e]
      refine ⟨fun i hi => ?_, .inr ⟨a, Finset.mem_insert_self a s, rfl⟩⟩
      rcases Finset.mem_insert.mp hi with rfl | hi
      · exact le_refl _
      · have := h1 i hi; omega
    · have e : IntOp.minsi (f a) (s.fold IntOp.minsi b f) = s.fold IntOp.minsi b f := if_neg (by simpa [BitVec.slt] using hlt)
      rw [e]
      refine ⟨fun i hi => ?_, h2.imp_right fun ⟨i, hi, e⟩ => ⟨i, Finset.mem_insert_of_mem hi, e⟩⟩
      rcases Finset.mem_insert.mp hi with rfl | hi
      · omega
      · exact h1 i hi

/-- `nextRow` is the least of the segment numbers that are at least `lim`, or 10000. -/
theorem nextRow_spec (ids : IVec S1x3200 32) (s : Fin 3200 → ℕ) (hs : ∀ j, ids (ix2 0 j) = BitVec.ofNat 32 (s j)) (hlt : ∀ j, s j < 10000) (lim : BitVec 32) :
    ∃ v : ℕ, v ≤ 10000 ∧ nextRow ids lim = BitVec.ofNat 32 v ∧ (∀ j, lim.toInt ≤ s j → v ≤ s j) ∧ (v = 10000 ∨ ∃ j, v = s j ∧ lim.toInt ≤ s j) := by
  classical
  let q : Fin 3200 → ℕ := fun j => if lim.toInt ≤ s j then s j else 10000
  have hq : ∀ j, q j ≤ 10000 := fun j => by have := hlt j; show (if _ then _ else _) ≤ _; split <;> omega
  let src : IVec S1x1x3200 32 := shapeCast S1x1x3200 (select (cmpi .sge ids (broadcast S1x3200 lim)) ids (broadcast S1x3200 10000#32)) shapeCasts_S1x3200_S1x1x3200
  have hsrc : ∀ j : Fin 3200, src (ix3 0 0 j) = BitVec.ofNat 32 (q j) := fun j => by
    have e := shapeCast_apply (select (cmpi .sge ids (broadcast S1x3200 lim)) ids (broadcast S1x3200 10000#32)) shapeCasts_S1x3200_S1x1x3200 (ix3 0 0 j) (ix2 0 j) (by rw [Shape.rowMajor_val_two, Shape.rowMajor_val_three]; simp)
    refine e.trans ?_
    show (if IntOp.cmpi .sge (ids (ix2 0 j)) lim = 1#1 then ids (ix2 0 j) else 10000#32) = _
    simp only [hs j, IntOp.cmpi_sge, toInt_small _ (show s j < 2 ^ 31 by have := hlt j; omega)]
    show _ = BitVec.ofNat 32 (if _ then _ else _)
    split <;> rfl
  have hall : ∀ i : S1x1x3200.Idx, ∃ j, i = ix3 0 0 j := fun i => ⟨i 2, by
    funext d
    match d with
    | 0 => exact Fin.ext (by have := (i 0).isLt; simp at this; simpa using this)
    | 1 => exact Fin.ext (by have := (i 1).isLt; simp at this; simpa using this)
    | 2 => rfl⟩
  obtain ⟨S, hS, e⟩ : ∃ S : Finset S1x1x3200.Idx, (∀ i, i ∈ S) ∧ nextRow ids lim = S.fold IntOp.minsi 2147483647#32 src := by
    have h1 : ∀ j : S1.Idx, multiReductionI .minsi [1, 2] S1 src 2147483647#32 reduces_S1x1x3200_S1 rfl j
        = (Finset.univ.filter fun i => reduces_S1x1x3200_S1.drop i = j).fold IntOp.minsi 2147483647#32 src := fun j => multiReductionI_eq_fold _ _ _ _ _ _
    have h2 : ∀ j k : S1.Idx, j = k := fun j k => funext fun d => Fin.ext (by
      have hd : d = 0 := Subsingleton.elim _ _
      subst hd
      have h1 : (j 0).val < 1 := (j 0).isLt
      have h2 : (k 0).val < 1 := (k 0).isLt
      omega)
    exact ⟨_, fun i => Finset.mem_filter.mpr ⟨Finset.mem_univ _, h2 _ _⟩, h1 _⟩
  obtain ⟨h1, h2⟩ := fold_min S src 2147483647#32
  rw [← e] at h1 h2
  have hle : ∀ j, (nextRow ids lim).toInt ≤ q j := fun j => by
    have := h1 (ix3 0 0 j) (hS _)
    rwa [hsrc, toInt_small _ (by have := hq j; omega)] at this
  obtain ⟨j, hj⟩ : ∃ j, nextRow ids lim = BitVec.ofNat 32 (q j) := by
    rcases h2 with h2 | ⟨i, -, h2⟩
    · have := hle 0
      rw [h2, show (2147483647#32 : BitVec 32).toInt = 2147483647 from by decide] at this
      have := hq 0
      omega
    · obtain ⟨j, rfl⟩ := hall i
      exact ⟨j, h2.trans (hsrc j)⟩
  refine ⟨q j, hq j, hj, fun j' h => ?_, ?_⟩
  · have := hle j'
    rw [hj, toInt_small _ (by have := hq j; omega), show q j' = s j' from if_pos h] at this
    omega
  · by_cases h : lim.toInt ≤ s j
    · exact .inr ⟨j, if_pos h, h⟩
    · exact .inl (if_neg h)

end Cert.KernelIdeal.Seg
-- ==== Proof.Host.lean ====
/-
  Hand-written. What the host operations before the kernel leave in its word table and its reshaped operands, as functions
  of the program's arguments.
-/
module

public import proofs.«01_k».proof.Proof.Run
public import proofs.«01_k».proof.Proof.Words

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx Idealize.ShloMosaic.StableHlo

variable {F : FTy → Type} [FloatOps F]

/-- One word for every sub-tile. -/
abbrev each (w : BitVec 32) : IVec S100 32 := broadcastInDim S100 ![] bcast_S_S100 (constantI S_ 32 w)

/-- The first segment number of every sub-tile. -/
def firsts (ids : IVec S320000 32) : IVec S100 32 := Host.slice S100 ![0] ![3200] ids slicesBy_S320000_S100_0s3200
/-- The last segment number of every sub-tile. -/
def lasts (ids : IVec S320000 32) : IVec S100 32 := Host.slice S100 ![3199] ![3200] ids slicesBy_S320000_S100_3199s3200

/-- Every word divided by 8, rounded down. -/
def eighths (x : IVec S100 32) : IVec S100 32 :=
  select (andi (cmpi .ne (signi x) (broadcastInDim S100 ![] bcast_S_S100 (signi (constantI S_ 32 8#32)))) (cmpi .ne (Host.remsi x (each 8#32)) (each 0#32)))
    (subi (Host.divsi x (each 8#32)) (each 1#32)) (Host.divsi x (each 8#32))

/-- The start of every sub-tile's first window. -/
def bases (ids : IVec S320000 32) : IVec S100 32 := minsi (muli (eighths (firsts ids)) (each 8#32)) (each 9872#32)

/-- Which sub-tiles outrun their first window. -/
def outruns (ids : IVec S320000 32) : IVec S100 1 := cmpi .sge (lasts ids) (addi (bases ids) (each 128#32))

/-- Whether a grid point has a sub-tile that does. -/
def flags (ids : IVec S320000 32) : IVec S10 32 :=
  extui 32 (Host.reduce IntOp.ori (shapeCast S10x10 (outruns ids) shapeCasts_S100_S10x10) (constantI S_ 1 0#1) reducesTo_S10x10_S10_d1 h_S_) natLt_1_32

/-- The starts and the last numbers, alternating. -/
def pairs (ids : IVec S320000 32) : IVec S100x2 32 :=
  concatenate S100x2 1 [⟨S100x1, broadcastInDim S100x1 ![0] bcast_S100_S100x1_0 (bases ids)⟩, ⟨S100x1, broadcastInDim S100x1 ![0] bcast_S100_S100x1_0 (lasts ids)⟩]
    concatenates_S100x1_S100x1_S100x2_d1

/-- The word table. -/
def table (ids : IVec S320000 32) : IVec S210 32 :=
  concatenate S210 0 [⟨S200, shapeCast S200 (pairs ids) shapeCasts_S100x2_S200⟩, ⟨S10, flags ids⟩] concatenates_S200_S10_S210_d0

variable (m : (ℓ : Loc nD τ sig) → Buf (Elt F) ℓ)

set_option maxHeartbeats 2000000 in
/-- The word table the kernel finds. -/
theorem found_table (c : Dev nD) : found m c main_v17 = table (m ((c : Thread nD τ).loc main_arg1)) := by
  show StableHlo.after (hostOps (F := F)) (fun b => m (c, b)) main_v17 = _
  simp only [hostOps, hostOps0, hostOps0_1, hostOps0_2, List.flatten_cons, List.flatten_nil, List.append_nil, List.cons_append, List.nil_append,
    TRef.ternary, TRef.binary, TRef.nullary, TRef.unary, TRef.toBuf, TRef.ofBuf, cast_eq]
  after_results <;> rfl

set_option maxHeartbeats 2000000 in
/-- The segment numbers the kernel finds, reshaped. -/
theorem found_ids (c : Dev nD) : found m c main_v18 = shapeCast S10x10x3200 (m ((c : Thread nD τ).loc main_arg1)) shapeCasts_S320000_S10x10x3200 := by
  show StableHlo.after (hostOps (F := F)) (fun b => m (c, b)) main_v18 = _
  simp only [hostOps, hostOps0, hostOps0_1, hostOps0_2, List.flatten_cons, List.flatten_nil, List.append_nil, List.cons_append, List.nil_append,
    TRef.ternary, TRef.binary, TRef.nullary, TRef.unary, TRef.toBuf, TRef.ofBuf, cast_eq]
  after_results <;> rfl

set_option maxHeartbeats 2000000 in
/-- The bias the kernel finds, as one row. -/
theorem found_bias (c : Dev nD) : found m c main_v19 = shapeCast S1x128 (m ((c : Thread nD τ).loc main_arg3)) shapeCasts_S128_S1x128 := by
  show StableHlo.after (hostOps (F := F)) (fun b => m (c, b)) main_v19 = _
  simp only [hostOps, hostOps0, hostOps0_1, hostOps0_2, List.flatten_cons, List.flatten_nil, List.append_nil, List.cons_append, List.nil_append,
    TRef.ternary, TRef.binary, TRef.nullary, TRef.unary, TRef.toBuf, TRef.ofBuf, cast_eq]
  after_results <;> rfl

end Cert.KernelIdeal.Seg
-- ==== Proof.Seen.lean ====
/-
  Hand-written. What a grid point reads, once the segment numbers are known to be sorted and in range: the words of its
  table as natural numbers, its segment numbers, and that it can run.
-/
module

public import proofs.«01_k».proof.Proof.Host
public import Idealize.ShloMosaic.Lib.ReduceAll

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx

variable {F : FTy → Type} [FloatOps F]

/-- The segment numbers as natural numbers. -/
def seg (ids : IVec S320000 32) (r : Fin 320000) : ℕ := (ids (ix1 r)).toNat

/-- The segment numbers are those of the result's rows, in order. -/
structure Sorted (ids : IVec S320000 32) : Prop where
  lt : ∀ r, seg ids r < 10000
  mono : ∀ r r', r ≤ r' → seg ids r ≤ seg ids r'

/-- Row `j` of sub-tile `n` of grid point `g`, among all the rows. -/
def rowOf (g n : Fin 10) (j : Fin 3200) : Fin 320000 := ⟨(10 * g.val + n.val) * 3200 + j.val, by omega⟩

/-- The grid point's operands say `s`: row `j` of sub-tile `n` belongs to segment `s n j`. -/
structure Seen (I : Ins F) (g : Fin 10) (s : Fin 10 → Fin 3200 → ℕ) : Prop where
  lt : ∀ n j, s n j < 10000
  mono : ∀ n j j', j ≤ j' → s n j ≤ s n j'
  ids : ∀ n j, tileIds I.ids n (ix2 0 j) = BitVec.ofNat 32 (s n j)
  base : ∀ n, baseW I.T g n = BitVec.ofNat 32 (min (s n 0 / 8 * 8) 9872)
  last : ∀ n, lastW I.T g n = BitVec.ofNat 32 (s n 3199)
  flag : flagW I.T g = 0#32 → ∀ n, s n 3199 < min (s n 0 / 8 * 8) 9872 + 128

/-- A grid point that reads sorted segment numbers can run. -/
theorem Seen.sound {I : Ins F} {g : Fin 10} {s : Fin 10 → Fin 3200 → ℕ} (h : Seen I g s) : Sound I g where
  fits n := by rw [h.base]; exact fits_of _ (by omega)
  loop2 n hc := by
    rw [h.base, h.last] at *
    exact loop2_ok _ _ (h.lt n _) ((cond3_iff _ _ (by omega) (h.lt n _)).mp hc)
  loop3 n _ := loop3_ok _ _
  none3 n _ := loop3_trips _ _
  next n lim := by
    obtain ⟨v, hv, e, -, -⟩ := nextRow_spec (tileIds I.ids n) (s n) (h.ids n) (h.lt n) lim
    rw [e, curOf_eq v hv]
    exact fits_of _ (by omega)

/-! ## The table's words -/

/-- A word's sign. -/
def signOf (w : BitVec 32) : BitVec 32 := if w = 0 then 0 else if w.msb then -1 else 1

/-- A word divided by 8 as the host rounds it. -/
def eighth (w : BitVec 32) : BitVec 32 :=
  if IntOp.andi (IntOp.cmpi .ne (signOf w) (signOf 8#32)) (IntOp.cmpi .ne (IntOp.remsi .host w 8#32) 0#32) = 1#1 then
    IntOp.subi (IntOp.divsi .host w 8#32) 1#32
  else IntOp.divsi .host w 8#32

/-- A segment number's eighth, as a word. -/
theorem eighth_word (v : ℕ) (hv : v < 10000) : eighth (BitVec.ofNat 32 v) = BitVec.ofNat 32 (v / 8) := by
  have key : ∀ a : Fin 100, ∀ b : Fin 100, eighth (BitVec.ofNat 32 (100 * a.val + b.val)) = BitVec.ofNat 32 ((100 * a.val + b.val) / 8) := by
    decide +kernel
  have e : 100 * (v / 100) + v % 100 = v := Nat.div_add_mod v 100
  have h := key ⟨v / 100, by omega⟩ ⟨v % 100, Nat.mod_lt _ (by omega)⟩
  simpa only [e] using h

/-- The host's own eighths are those. -/
theorem eighth_eq (x : IVec S100 32) (k : S100.Idx) (v : ℕ) (hv : v < 10000) (hx : x k = BitVec.ofNat 32 v) :
    eighths x k = BitVec.ofNat 32 (v / 8) := by
  rw [← eighth_word v hv, ← hx]
  rfl

variable {ids : IVec S320000 32}

/-- A segment's word is its number. -/
theorem Sorted.word (h : Sorted ids) (r : Fin 320000) : ids (ix1 r) = BitVec.ofNat 32 (seg ids r) :=
  (BitVec.ofNat_toNat (m := 32) _).symm ▸ (BitVec.setWidth_eq _).symm

/-- A sub-tile's first segment word. -/
theorem firsts_at (k : Fin 100) : firsts ids (ix1 k) = ids (ix1 ⟨3200 * k.val, by omega⟩) := by
  unfold firsts Host.slice
  exact congrArg ids (funext fun a => Fin.ext (by match a with | 0 => show 0 + 3200 * k.val = _; simp))

/-- A sub-tile's last segment word. -/
theorem lasts_at (k : Fin 100) : lasts ids (ix1 k) = ids (ix1 ⟨3199 + 3200 * k.val, by omega⟩) := by
  unfold lasts Host.slice
  exact congrArg ids (funext fun a => Fin.ext (by match a with | 0 => rfl))

/-- A sub-tile's base word: its first segment rounded down to a multiple of 8, at most 9872. -/
theorem bases_at (h : Sorted ids) (k : Fin 100) : bases ids (ix1 k) = BitVec.ofNat 32 (min (seg ids ⟨3200 * k.val, by omega⟩ / 8 * 8) 9872) := by
  have hlt := h.lt ⟨3200 * k.val, by omega⟩
  have h1 := eighth_eq (firsts ids) (ix1 k) _ hlt ((firsts_at k).trans (h.word _))
  show Scalar.minsi (Scalar.muli (eighths (firsts ids) (ix1 k)) 8#32) 9872#32 = _
  rw [h1]
  exact Affine.eq_of (Affine.minsi (e := min (((seg ids ⟨3200 * k.val, by omega⟩ / 8 : ℕ) : ℤ) * 8) 9872)
    (Affine.muli (small _ (by omega)) (Affine.ofNat (e := 8) 8 ⟨rfl, by omega⟩) ⟨rfl, by omega, by omega⟩) (Affine.ofNat (e := 9872) 9872 ⟨rfl, by omega⟩) rfl) _ (by push_cast; rfl)

/-- A sub-tile's entry in the table. -/
theorem table_base (ids : IVec S320000 32) (g n : Fin 10) : baseW (table ids) g n = bases ids (ix1 ⟨10 * g.val + n.val, by omega⟩) := by
  unfold baseW tableAt table
  refine (concatenate_pair_apply_left (s₁ := S200) (s₂ := S10) (t := S210) 0 _ _ _ _ rfl (ix1 ⟨20 * g.val + 2 * n.val, by omega⟩) (fun b => by match b with | 0 => rfl)).trans ?_
  refine (shapeCast_apply (pairs ids) _ _ (ix2 ⟨10 * g.val + n.val, by omega⟩ 0) (by rw [Shape.rowMajor_val_two, Shape.rowMajor_val_one]; simp; omega)).trans ?_
  refine (concatenate_pair_apply_left (s₁ := S100x1) (s₂ := S100x1) (t := S100x2) 1 _ _ _ _ rfl (ix2 ⟨10 * g.val + n.val, by omega⟩ 0) (fun b => by match b with | 0 => rfl | 1 => rfl)).trans ?_
  exact broadcastInDim_apply _ _ _ _ _ fun a => by match a with | 0 => rfl

/-- A sub-tile's last segment in the table. -/
theorem table_last (ids : IVec S320000 32) (g n : Fin 10) : lastW (table ids) g n = lasts ids (ix1 ⟨10 * g.val + n.val, by omega⟩) := by
  unfold lastW tableAt table
  refine (concatenate_pair_apply_left (s₁ := S200) (s₂ := S10) (t := S210) 0 _ _ _ _ rfl (ix1 ⟨20 * g.val + 2 * n.val + 1, by omega⟩) (fun b => by match b with | 0 => rfl)).trans ?_
  refine (shapeCast_apply (pairs ids) _ _ (ix2 ⟨10 * g.val + n.val, by omega⟩ 1) (by rw [Shape.rowMajor_val_two, Shape.rowMajor_val_one]; simp; omega)).trans ?_
  refine (concatenate_pair_apply_right (s₁ := S100x1) (s₂ := S100x1) (t := S100x2) 1 _ _ _ _ rfl rfl (ix2 ⟨10 * g.val + n.val, by omega⟩ 0)
    (fun b hb => by match b with | 0 => rfl | 1 => exact absurd rfl hb) rfl).trans ?_
  exact broadcastInDim_apply _ _ _ _ _ fun a => by match a with | 0 => rfl

/-- An `or` over a set that holds a 1 is 1. -/
theorem fold_or {ι : Type} [DecidableEq ι] (s : Finset ι) (f : ι → BitVec 1) (b : BitVec 1) (i : ι) (hi : i ∈ s) (hf : f i = 1#1) : s.fold IntOp.ori b f = 1#1 := by
  induction s using Finset.induction_on with
  | empty => exact absurd hi (Finset.notMem_empty i)
  | insert a s ha ih =>
    rw [Finset.fold_insert ha]
    have hor : ∀ p q : BitVec 1, p = 1#1 ∨ q = 1#1 → IntOp.ori p q = 1#1 := by decide
    rcases Finset.mem_insert.mp hi with rfl | hi
    · exact hor _ _ (.inl hf)
    · exact hor _ _ (.inr (ih hi))

/-- A grid point's flag is 0 only if none of its sub-tiles outruns its first window. -/
theorem table_flag (ids : IVec S320000 32) (g n : Fin 10) (h : flagW (table ids) g = 0#32) : ¬ outruns ids (ix1 ⟨10 * g.val + n.val, by omega⟩) = 1#1 := by
  intro ho
  have e : flagW (table ids) g = flags ids (ix1 g) := by
    unfold flagW tableAt table
    exact concatenate_pair_apply_right (s₁ := S200) (s₂ := S10) (t := S210) 0 _ _ _ _ rfl rfl (ix1 g)
      (fun b hb => by match b with | 0 => exact absurd rfl hb) (by show g.val + 200 = 200 + g.val; omega)
  have e1 : shapeCast S10x10 (outruns ids) shapeCasts_S100_S10x10 (ix2 g n) = outruns ids (ix1 ⟨10 * g.val + n.val, by omega⟩) :=
    shapeCast_apply _ _ _ _ (by rw [Shape.rowMajor_val_two, Shape.rowMajor_val_one]; simp; omega)
  have e2 : Host.reduce IntOp.ori (shapeCast S10x10 (outruns ids) shapeCasts_S100_S10x10) (constantI S_ 1 0#1) reducesTo_S10x10_S10_d1 h_S_ (ix1 g) = 1#1 := by
    classical
    rw [Host.reduce_eq_fold]
    exact fold_or _ _ _ (ix2 g n) (Finset.mem_filter.mpr ⟨Finset.mem_univ _, funext fun a => by match a with | 0 => rfl⟩) (e1.trans ho)
  rw [e] at h
  have h' : (Host.reduce IntOp.ori (shapeCast S10x10 (outruns ids) shapeCasts_S100_S10x10) (constantI S_ 1 0#1) reducesTo_S10x10_S10_d1 h_S_ (ix1 g)).setWidth 32 = 0#32 := h
  rw [e2] at h'
  exact absurd h' (by decide)

/-! ## The operands -/

section Operands
variable (c : Dev nD) (V : Bufs F c)

/-- The segment numbers that a grid point reads. -/
theorem ids_at (g n : Fin 10) (j : Fin 3200) : tileIds (insAt c V (pt g)).ids n (ix2 0 j) = V main_v18 (ix3 g n j) := by
  have h0 : ∀ (g : Fin 10) (d : Fin 3), cc0_transform_0 (grid0.coords (pt g)) d = (![g.val, 0, 0] : Fin 3 → ℕ) d := by decide +kernel
  unfold tileIds
  refine (shapeCast_apply (tileRow (insAt c V (pt g)).ids n) _ (ix2 0 j) (ix3 0 0 j) (by rw [Shape.rowMajor_val_two, Shape.rowMajor_val_three]; simp)).trans ?_
  refine congrArg (V main_v18) (funext fun d => Fin.ext ?_)
  match d with
  | 0 => show cc0_transform_0 (grid0.coords (pt g)) 0 * 1 + 1 * (0 + 1 * 0) = g.val; rw [h0]; simp
  | 1 => show cc0_transform_0 (grid0.coords (pt g)) 1 * 10 + 1 * (n.val + 1 * 0) = n.val; rw [h0]; simp
  | 2 => show cc0_transform_0 (grid0.coords (pt g)) 2 * 3200 + 1 * (0 + 1 * j.val) = j.val; rw [h0]; simp

/-- The rows that a grid point reads. -/
theorem x_at (g n : Fin 10) (j : Fin 3200) (k : Fin 128) : tileX (insAt c V (pt g)).x n (ix2 j k) = V main_arg0 (ix2 (rowOf g n j) k) := by
  have h0 : ∀ (g : Fin 10) (d : Fin 2), cc0_transform_1 (grid0.coords (pt g)) d = (![g.val, 0] : Fin 2 → ℕ) d := by decide +kernel
  refine congrArg (V main_arg0) (funext fun d => Fin.ext ?_)
  match d with
  | 0 => show cc0_transform_1 (grid0.coords (pt g)) 0 * 32000 + 1 * (3200 * n.val + 1 * j.val) = (10 * g.val + n.val) * 3200 + j.val; rw [h0]; simp; omega
  | 1 => show cc0_transform_1 (grid0.coords (pt g)) 1 * 128 + 1 * (0 + 1 * k.val) = k.val; rw [h0]; simp

/-- The weights that a grid point reads. -/
theorem W_at (g : Fin 10) : (insAt c V (pt g)).W = V main_arg2 := by
  have h0 : ∀ (g : Fin 10) (d : Fin 2), cc0_transform_2 (grid0.coords (pt g)) d = 0 := by decide +kernel
  funext i
  refine congrArg (V main_arg2) (funext fun d => Fin.ext ?_)
  show cc0_transform_2 (grid0.coords (pt g)) d * S128x128.size d + 1 * (i d).val = (i d).val
  rw [h0]; omega

/-- The bias that a grid point reads. -/
theorem b_at (g : Fin 10) : (insAt c V (pt g)).b = V main_v19 := by
  have h0 : ∀ (g : Fin 10) (d : Fin 2), cc0_transform_3 (grid0.coords (pt g)) d = 0 := by decide +kernel
  funext i
  refine congrArg (V main_v19) (funext fun d => Fin.ext ?_)
  show cc0_transform_3 (grid0.coords (pt g)) d * S1x128.size d + 1 * (i d).val = (i d).val
  rw [h0]; omega

end Operands

/-- The segment numbers cut into grid points, sub-tiles and rows. -/
theorem split_at (ids : IVec S320000 32) (g n : Fin 10) (j : Fin 3200) :
    shapeCast S10x10x3200 ids shapeCasts_S320000_S10x10x3200 (ix3 g n j) = ids (ix1 (rowOf g n j)) :=
  shapeCast_apply _ _ _ _ (by rw [Shape.rowMajor_val_three, Shape.rowMajor_val_one]; unfold rowOf; simp; omega)

/-- With sorted segment numbers, every grid point reads its own part of them. -/
theorem seen (m : (ℓ : Loc nD τ sig) → Buf (Elt F) ℓ) (c : Dev nD) (h : Sorted (m ((c : Thread nD τ).loc main_arg1))) (g : Fin 10) :
    Seen (insAt c (found m c) (pt g)) g (fun n j => seg (m ((c : Thread nD τ).loc main_arg1)) (rowOf g n j)) := by
  have hT : (insAt c (found m c) (pt g)).T = table (m ((c : Thread nD τ).loc main_arg1)) := found_table m c
  have hf : ∀ n : Fin 10, (⟨3200 * (10 * g.val + n.val), by omega⟩ : Fin 320000) = rowOf g n 0 := fun n => Fin.ext (by unfold rowOf; simp; omega)
  have hl : ∀ n : Fin 10, (⟨3199 + 3200 * (10 * g.val + n.val), by omega⟩ : Fin 320000) = rowOf g n 3199 := fun n => Fin.ext (by unfold rowOf; simp; omega)
  have hb : ∀ n : Fin 10, bases (m ((c : Thread nD τ).loc main_arg1)) (ix1 ⟨10 * g.val + n.val, by omega⟩) = BitVec.ofNat 32 (min (seg (m ((c : Thread nD τ).loc main_arg1)) (rowOf g n 0) / 8 * 8) 9872) :=
    fun n => (bases_at h _).trans (by rw [← hf n])
  have hla : ∀ n : Fin 10, lasts (m ((c : Thread nD τ).loc main_arg1)) (ix1 ⟨10 * g.val + n.val, by omega⟩) = BitVec.ofNat 32 (seg (m ((c : Thread nD τ).loc main_arg1)) (rowOf g n 3199)) :=
    fun n => (lasts_at _).trans ((h.word _).trans (by rw [← hl n]))
  refine ⟨fun n j => h.lt _, fun n j j' hj => h.mono _ _ ?_, fun n j => ?_, fun n => ?_, fun n => ?_, fun hz n => ?_⟩
  · show (10 * g.val + n.val) * 3200 + j.val ≤ (10 * g.val + n.val) * 3200 + j'.val
    have : j.val ≤ j'.val := hj
    omega
  · rw [ids_at, found_ids, ← h.word]
    exact split_at _ g n j
  · rw [hT, table_base, hb]
  · rw [hT, table_last, hla]
  · rw [hT] at hz
    have ho := table_flag _ g n hz
    have ho' : ¬ IntOp.cmpi .sge (lasts (m ((c : Thread nD τ).loc main_arg1)) (ix1 ⟨10 * g.val + n.val, by omega⟩))
        (Scalar.addi (bases (m ((c : Thread nD τ).loc main_arg1)) (ix1 ⟨10 * g.val + n.val, by omega⟩)) 128#32) = 1#1 := ho
    have hlt := h.lt (rowOf g n 3199)
    rw [hb, hla, add128 _ (by omega), IntOp.cmpi_sge, toInt_small _ (by omega), toInt_small _ (by omega)] at ho'
    show seg _ _ < _
    omega

end Cert.KernelIdeal.Seg
-- ==== Proof.Pre.lean ====
/-
  Hand-written. The printed precondition read back: the segment numbers are at least 0, below 10000 and in order.
-/
module

public import proofs.«01_k».proof.Pre_sorted_ids
public import proofs.«01_k».proof.Proof.Gen.Pre_sorted_ids
public import Idealize.ShloMosaic.Lib.Affine
public import Idealize.ShloMosaic.Lib.Pipeline.Value
public import Idealize.ShloMosaic.Lib.ReduceAll
public import Idealize.ShloMosaic.Lib.ValueIdxCore
public import Idealize.ShloMosaic.Lib.ValueIdxCoords

@[expose] public section

set_option maxRecDepth 16384

noncomputable section

namespace Cert.Pre_sorted_ids.Seg

open Cert.Pre_sorted_ids Cert.Pre_sorted_ids.Facts
open Idealize.ShloMosaic Idealize.ShloMosaic.ValueIdx

variable {F : FTy → Type} [FloatOps F] [Cert.Pre_sorted_ids.Facts]

/-- A sequence of naturals that never falls from one entry to the next never falls. -/
theorem mono_of_step {N : ℕ} (f : Fin N → ℕ) (h : ∀ i (hi : i + 1 < N), f ⟨i, by omega⟩ ≤ f ⟨i + 1, hi⟩) (r r' : Fin N) (hr : r ≤ r') : f r ≤ f r' := by
  obtain ⟨r, hr1⟩ := r
  obtain ⟨r', hr2⟩ := r'
  have hle : r ≤ r' := hr
  induction r', hle using Nat.le_induction with
  | base => exact le_refl _
  | succ k hk ih => exact (ih (by omega) hk).trans (h k hr2)

/-- What the precondition says of the segment numbers. -/
theorem decode (a0 : FVec F S320000x128 .f32) (ids : IVec S320000 32) (a2 : FVec F S128x128 .f32) (a3 : FVec F S128 .f32) (h : fn a0 ids a2 a3 = fun _ => 1#1) :
    (∀ r : Fin 320000, (ids (ix1 r)).toNat < 10000) ∧ ∀ r r' : Fin 320000, r ≤ r' → (ids (ix1 r)).toNat ≤ (ids (ix1 r')).toNat := by
  have h0 := congrFun h ix0
  unfold fn at h0
  obtain ⟨hR, hS⟩ := IntOp.andi_eq_one.mp (show IntOp.andi _ _ = 1#1 from h0)
  haveI : Subsingleton S_.Idx := ⟨fun a b => (eq_ix0 a).trans (eq_ix0 b).symm⟩
  have hR' : ∀ r : Fin 320000, 0 ≤ (ids (ix1 r)).toInt ∧ (ids (ix1 r)).toInt < 10000 := fun r => by
    obtain ⟨h1, h2⟩ := IntOp.andi_eq_one.mp (show IntOp.andi (IntOp.cmpi .sge (ids (ix1 r)) 0#32) (IntOp.cmpi .slt (ids (ix1 r)) 10000#32) = 1#1 from
      Host.reduce_andi_all _ _ _ _ _ hR (ix1 r))
    rw [IntOp.cmpi_sge] at h1
    rw [IntOp.cmpi_slt] at h2
    exact ⟨h1, h2⟩
  have hN : ∀ r : Fin 320000, (ids (ix1 r)).toInt = (ids (ix1 r)).toNat := fun r => by
    have h1 := (hR' r).1
    have h2 := BitVec.toInt_eq_toNat_cond (ids (ix1 r))
    have h3 := (ids (ix1 r)).isLt
    split at h2 <;> omega
  refine ⟨fun r => by have := (hR' r).2; rw [hN] at this; omega, mono_of_step (fun r => (ids (ix1 r)).toNat) fun i hi => ?_⟩
  have h1 := Host.reduce_andi_all _ _ _ _ _ hS (ix1 (⟨i, by omega⟩ : Fin 319999))
  have e0 : extractStridedSlice S319999 ![0] ids slices_S320000_S319999_0 (ix1 (⟨i, by omega⟩ : Fin 319999)) = ids (ix1 ⟨i, by omega⟩) :=
    extractStridedSlice_apply _ _ _ _ _ fun a => by match a with | 0 => simp
  have e1 : extractStridedSlice S319999 ![1] ids slices_S320000_S319999_1 (ix1 (⟨i, by omega⟩ : Fin 319999)) = ids (ix1 ⟨i + 1, hi⟩) :=
    extractStridedSlice_apply _ _ _ _ _ fun a => by match a with | 0 => simp; omega
  have h2 : IntOp.cmpi .sle (ids (ix1 ⟨i, by omega⟩)) (ids (ix1 ⟨i + 1, hi⟩)) = 1#1 := by
    rw [← e0, ← e1]
    exact h1
  rw [IntOp.cmpi_sle, hN, hN] at h2
  show (ids (ix1 ⟨i, _⟩)).toNat ≤ (ids (ix1 ⟨i + 1, hi⟩)).toNat
  omega

end Cert.Pre_sorted_ids.Seg
-- ==== Proof.Frames.lean ====
/-
  Hand-written. The kernel, in both printings, and the reference run, keep their arguments and end with every counter at
  zero; and the run of the kernel over the extended reals with its result.
-/
module

public import proofs.«01_k».proof.Defs
public import proofs.«01_k».proof.Proof.KSeen
public import proofs.«01_k».proof.Proof.Seen
public import proofs.«01_k».proof.Proof.Pre
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The precondition gives sorted segment numbers, on every device of the kernel as printed for its bits. -/
theorem sorted_k [Cert.Pre_sorted_ids.Facts] (m : (ℓ : Loc Cert.Kernel.nD Cert.Kernel.τ Cert.Kernel.sig) → Buf (Elt Bits) ℓ) (h : Cert.Pre_Kernel m)
    (c : Dev Cert.Kernel.nD) : Cert.Kernel.Seg.Sorted (m ((c.tc : Thread Cert.Kernel.nD Cert.Kernel.τ).loc Cert.Kernel.main_arg1)) :=
  have e := Cert.Pre_sorted_ids.Seg.decode (F := Bits) _ _ _ _ (h c)
  ⟨e.1, e.2⟩

/-- The same of the kernel as printed for the extended reals. -/
theorem sorted_i [Cert.Pre_sorted_ids.Facts] (m : (ℓ : Loc Cert.KernelIdeal.nD Cert.KernelIdeal.τ Cert.KernelIdeal.sig) → Buf (Elt Ideal) ℓ) (h : Cert.Pre_KernelIdeal m)
    (c : Dev Cert.KernelIdeal.nD) : Cert.KernelIdeal.Seg.Sorted (m ((c.tc : Thread Cert.KernelIdeal.nD Cert.KernelIdeal.τ).loc Cert.KernelIdeal.main_arg1)) :=
  have e := Cert.Pre_sorted_ids.Seg.decode (F := Ideal) _ _ _ _ (h c)
  ⟨e.1, e.2⟩

/-- The kernel runs on sorted segment numbers, keeps its arguments and ends with every counter at zero. -/
theorem frame_k [Cert.Pre_sorted_ids.Facts] : Cert.quiescent_Kernel := fun m g h =>
  (θ_run (Cert.Kernel.defs (F := Bits)) _ _).mono (fun _ hr => ⟨fun c => (hr.1 c).2, hr.2⟩)
    (Cert.Kernel.Seg.run (F := Bits) m g fun c i => (Cert.Kernel.Seg.seen m c (sorted_k m h c) i).sound)

/-- The same over the extended reals. -/
theorem frame_i [Cert.Pre_sorted_ids.Facts] : Cert.quiescent_KernelIdeal := fun m g h =>
  (θ_run (Cert.KernelIdeal.defs (F := Ideal)) _ _).mono (fun _ hr => ⟨fun c => (hr.1 c).2, hr.2⟩)
    (Cert.KernelIdeal.Seg.run (F := Ideal) m g fun c i => (Cert.KernelIdeal.Seg.seen m c (sorted_i m h c) i).sound)

/-- The reference runs on any arguments, keeps them, and ends with every counter at zero: it declares none. -/
theorem frame_r : Cert.quiescent_ReferenceIdeal := fun m g _ =>
  (θ_run (Cert.ReferenceIdeal.defs (F := Ideal)) _ _).mono (fun r hr => ⟨fun c => (hr c).2, sem_eq_zero_of_no_sems (by decide) r.2⟩)
    (Cert.ReferenceIdeal.Value.run (F := Ideal) m g)

end Cert.Proof
-- ==== Proof.Tile.lean ====
/-
  Hand-written. Over the extended reals: a window adds to each of its rows the rows of the sub-tile whose segment that row
  is, and nothing to the rows outside it.
-/
module

public import proofs.«01_k».proof.Proof.Words
public import Idealize.ShloMosaic.Lib.MatmulPlain
public import Idealize.ShloMosaic.Lib.IdealHost

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx
open scoped BigOperators

/-- What the rows of a sub-tile add to segment `a`, in column `d`. -/
def tot (s : Fin 3200 → ℕ) (y : FVec Ideal S3200x128 .f32) (a : ℕ) (d : Fin 128) : EReal := ∑ j, if s j = a then y (ix2 j d) else 0

/-- A segment that no row belongs to gets nothing. -/
theorem tot_none (s : Fin 3200 → ℕ) (y : FVec Ideal S3200x128 .f32) (a : ℕ) (d : Fin 128) (h : ∀ j, s j ≠ a) : tot s y a d = 0 :=
  Finset.sum_eq_zero fun j _ => if_neg (h j)

/-- `addRows` at one element: what is there plus the selected rows. -/
theorem addRows_at (mask : IVec S128x3200 1) (y : FVec Ideal S3200x128 .f32) (win : Vec Ideal S128x128 .f32) (r d : Fin 128) :
    (addRows mask y win (ix2 r d) : EReal) = win (ix2 r d) + ∑ j : Fin 3200, if mask (ix2 r j) = 1#1 then (y (ix2 j d) : EReal) else 0 := by
  unfold addRows
  rw [shapeCast_self]
  have e := Ideal.matmul_plain_apply (M := 128) (K := 3200) (N := 128) none
    (select mask (broadcast S128x3200 (Scalar.ofBits .f32 0x3F800000#32 : Ideal .f32)) (broadcast S128x3200 (Scalar.ofBits .f32 0x00000000#32 : Ideal .f32)))
    y (constant S128x128 .f32 0x00000000#32) r d
  refine (congrArg (fun z : EReal => (win (ix2 r d) : EReal) + z) e).trans (congrArg (fun z : EReal => (win (ix2 r d) : EReal) + z) ?_)
  have z : (constant (F := Ideal) S128x128 .f32 0x00000000#32 (ix2 r d) : EReal) = 0 := Ideal.ofBits_zero_f32
  rw [z, zero_add]
  refine Finset.sum_congr rfl fun j _ => ?_
  show (if mask (ix2 r j) = 1#1 then Ideal.ofBits .f32 0x3F800000#32 else Ideal.ofBits .f32 0x00000000#32 : EReal) * y (ix2 j d) = _
  rw [Ideal.ofBits_one_f32, Ideal.ofBits_zero_f32]
  by_cases h : mask (ix2 r j) = 1#1
  · rw [if_pos h, if_pos h]; exact one_mul _
  · rw [if_neg h, if_neg h]; exact zero_mul _

/-- A window at `w` whose mask selects, for its row `r`, the rows of segment `w + r` if that is at least `lo`. -/
theorem winStep_at (w lo : ℕ) (hw : w ≤ 9872) (s : Fin 3200 → ℕ) (mask : IVec S128x3200 1) (hm : ∀ r j, mask (ix2 r j) = 1#1 ↔ w + r.val = s j ∧ lo ≤ s j)
    (y : FVec Ideal S3200x128 .f32) (X : Acc Ideal) (a : Fin 10000) (d : Fin 128) :
    (winStep (BitVec.ofNat 32 w) mask y X (ix2 a d) : EReal) = X (ix2 a d) + if w ≤ a.val ∧ a.val < w + 128 ∧ lo ≤ a.val then tot s y a.val d else 0 := by
  have hf := fits_of w hw
  unfold winStep
  rw [dif_pos hf]
  unfold VecWindow.put
  have ho : ∀ q, k0_off2 (BitVec.ofNat 32 w) q = (![w, 0] : Fin 2 → ℕ) q := fun q => congrFun (off_row w hw) q
  by_cases hin : w ≤ a.val ∧ a.val < w + 128
  · have hall : ∀ q, k0_off2 (BitVec.ofNat 32 w) q ≤ ((ix2 a d : S10000x128.Idx) q).val ∧ ((ix2 a d : S10000x128.Idx) q).val < k0_off2 (BitVec.ofNat 32 w) q + S128x128.size q := fun q => by
      rw [ho q]
      match q with
      | 0 => exact hin
      | 1 => exact ⟨Nat.zero_le _, by show d.val < 0 + 128; omega⟩
    rw [dif_pos hall]
    have hloc : Rect.unitLocal (s := S10000x128) (off := k0_off2 (BitVec.ofNat 32 w)) (size := S128x128.size) (ix2 a d) hall = ix2 (⟨a.val - w, by omega⟩ : Fin 128) d :=
      funext fun q => Fin.ext (by
        show ((ix2 a d : S10000x128.Idx) q).val - k0_off2 (BitVec.ofNat 32 w) q = _
        rw [ho q]
        match q with
        | 0 => rfl
        | 1 => rfl)
    rw [hloc]
    refine (addRows_at _ _ _ _ _).trans ?_
    have hwin : VecWindow.window X (k0_off2 (BitVec.ofNat 32 w)) S128x128.size hf (ix2 (⟨a.val - w, by omega⟩ : Fin 128) d) = X (ix2 a d) :=
      congrArg X (funext fun q => Fin.ext (by
        show k0_off2 (BitVec.ofNat 32 w) q + 1 * ((ix2 (⟨a.val - w, by omega⟩ : Fin 128) d : S128x128.Idx) q).val = _
        rw [ho q]
        match q with
        | 0 => show w + 1 * (a.val - w) = a.val; omega
        | 1 => show 0 + 1 * d.val = d.val; omega))
    rw [hwin]
    refine congrArg (fun z : EReal => (X (ix2 a d) : EReal) + z) ?_
    by_cases hlo : lo ≤ a.val
    · rw [if_pos ⟨hin.1, hin.2, hlo⟩]
      refine Finset.sum_congr rfl fun j _ => ?_
      have : mask (ix2 ⟨a.val - w, by omega⟩ j) = 1#1 ↔ s j = a.val := by rw [hm]; show w + (a.val - w) = s j ∧ _ ↔ _; omega
      simp only [this]
    · rw [if_neg (by omega)]
      refine Finset.sum_eq_zero fun j _ => ?_
      rw [if_neg]
      rw [hm]; show ¬ (w + (a.val - w) = s j ∧ _); omega
  · rw [dif_neg fun h => hin (by have := h 0; rw [ho 0] at this; exact this), if_neg (by omega), add_zero]

section Masks
variable (s : Fin 3200 → ℕ) (ids : IVec S1x3200 32) (hs : ∀ j, ids (ix2 0 j) = BitVec.ofNat 32 (s j)) (hlt : ∀ j, s j < 10000)
include hs hlt

/-- Row `r` of the window at `w` is hit by the rows of segment `w + r`. -/
theorem hit_at (w : ℕ) (hw : w ≤ 9872) (r : Fin 128) (j : Fin 3200) : hit (BitVec.ofNat 32 w) ids (ix2 r j) = 1#1 ↔ w + r.val = s j := by
  have e1 : broadcastTo S128x3200 ids broadcasts_S1x3200_S128x3200 (ix2 r j) = BitVec.ofNat 32 (s j) :=
    (broadcastTo_apply _ _ _ (ix2 0 j) (fun q => by match q with | 0 => rfl | 1 => rfl)).trans (hs j)
  have e2 : iota .tc S128x3200 32 [0] iota_S128x3200_d0_w32 (ix2 r j) = BitVec.ofNat 32 r.val := iota_single_apply _ _ _ _ _ _
  have e3 : Scalar.addi (BitVec.ofNat 32 r.val) (BitVec.ofNat 32 w) = BitVec.ofNat 32 (w + r.val) :=
    Affine.eq_of (Affine.addi (e := (w : ℤ) + r.val) (small r.val (by omega)) (small w (by omega)) ⟨by omega, by omega, by omega⟩) (w + r.val) (by push_cast; rfl)
  have h := hlt j
  show IntOp.cmpi .eq (Scalar.addi (iota .tc S128x3200 32 [0] iota_S128x3200_d0_w32 (ix2 r j)) (BitVec.ofNat 32 w)) (broadcastTo S128x3200 ids broadcasts_S1x3200_S128x3200 (ix2 r j)) = 1#1 ↔ _
  rw [e1, e2, e3, IntOp.cmpi_eq, ofNat_inj_small (by omega) (by omega)]

/-- The same with the segments below `l` left out. -/
theorem hitFrom_at (w l : ℕ) (hw : w ≤ 9872) (hl : l ≤ 10000) (r : Fin 128) (j : Fin 3200) :
    hitFrom (BitVec.ofNat 32 w) (BitVec.ofNat 32 l) ids (ix2 r j) = 1#1 ↔ w + r.val = s j ∧ l ≤ s j := by
  have e1 : broadcastTo S128x3200 (cmpi .sge ids (broadcast S1x3200 (BitVec.ofNat 32 l))) broadcasts_S1x3200_S128x3200 (ix2 r j) = IntOp.cmpi .sge (ids (ix2 0 j)) (BitVec.ofNat 32 l) :=
    broadcastTo_apply _ _ _ (ix2 0 j) (fun q => by match q with | 0 => rfl | 1 => rfl)
  have h := hlt j
  show IntOp.andi (hit (BitVec.ofNat 32 w) ids (ix2 r j)) (broadcastTo S128x3200 (cmpi .sge ids (broadcast S1x3200 (BitVec.ofNat 32 l))) broadcasts_S1x3200_S128x3200 (ix2 r j)) = 1#1 ↔ _
  rw [e1, IntOp.andi_eq_one, hit_at s ids hs hlt w hw, IntOp.cmpi_sge, hs, toInt_small _ (by omega), toInt_small _ (by omega)]
  omega

end Masks

/-! ## The further windows of a sub-tile -/

section Sweep
variable (s : Fin 3200 → ℕ) (y : FVec Ideal S3200x128 .f32) (ids : IVec S1x3200 32) (hs : ∀ j, ids (ix2 0 j) = BitVec.ofNat 32 (s j))
  (hlt : ∀ j, s j < 10000)
include hs hlt

/-- After `k` further windows from the row `l0` on: every segment between `l0` and the first row not served yet, `l`, has
    its rows, and either all rows up to the last segment are served or at least 128 rows a window are. -/
structure Swept (last l0 : ℕ) (X : Acc Ideal) (k : ℕ) (st : BitVec 32 × Acc Ideal) (l : ℕ) : Prop where
  word : st.1 = BitVec.ofNat 32 l
  le : l ≤ 10000
  eight : l % 8 = 0
  far : last < l ∨ l0 + 128 * k ≤ l
  from_ : l0 ≤ l
  val : ∀ (a : Fin 10000) (d : Fin 128), (st.2 (ix2 a d) : EReal) = X (ix2 a d) + if l0 ≤ a.val ∧ a.val < l then tot s y a.val d else 0

/-- One more window takes the state a step further. -/
theorem sweep_swept (last l0 : ℕ) (hlast : last < 10000) (X : Acc Ideal) (k : ℕ) (st : BitVec 32 × Acc Ideal) (l : ℕ) (h : Swept s y last l0 X k st l) :
    ∃ l', Swept s y last l0 X (k + 1) (sweep (BitVec.ofNat 32 last) y ids st) l' := by
  have hle := h.le
  have h8 := h.eight
  have hfar := h.far
  have hfrom := h.from_
  unfold sweep
  rw [h.word]
  by_cases hc : l ≤ last
  · rw [if_pos ((cond4_iff last l (by omega) (by omega)).mpr hc)]
    obtain ⟨v, hv, e, hmin, hmem⟩ := nextRow_spec ids s hs hlt (BitVec.ofNat 32 l)
    rw [toInt_small _ (by omega)] at hmin hmem
    have hvl : l ≤ v := by rcases hmem with rfl | ⟨j, rfl, hj⟩ <;> omega
    rw [e, curOf_eq v hv, add128 _ (by omega)]
    refine ⟨min v 9872 / 8 * 8 + 128, rfl, by omega, by omega, by omega, by omega, fun a d => ?_⟩
    refine (winStep_at (min v 9872 / 8 * 8) l (by omega) s _ (hitFrom_at s ids hs hlt _ l (by omega) hle) y st.2 a d).trans ?_
    rw [h.val, add_assoc]
    refine congrArg (fun z : EReal => (X (ix2 a d) : EReal) + z) ?_
    by_cases h1 : l0 ≤ a.val ∧ a.val < l
    · rw [if_pos h1, if_neg (by omega), if_pos (by omega), add_zero]
    · rw [if_neg h1, zero_add]
      by_cases h2 : min v 9872 / 8 * 8 ≤ a.val
      · by_cases h3 : a.val < min v 9872 / 8 * 8 + 128 ∧ l ≤ a.val
        · rw [if_pos ⟨h2, h3⟩, if_pos (by omega)]
        · rw [if_neg (by omega), if_neg (by omega)]
      · rw [if_neg (by omega)]
        by_cases h3 : l ≤ a.val
        · rw [if_pos (by omega)]
          exact (tot_none s y _ d fun j hj => by have := hmin j; omega).symm
        · rw [if_neg (by omega)]
  · rw [if_neg (fun h' => hc ((cond4_iff last l (by omega) (by omega)).mp h'))]
    exact ⟨l, h.word, hle, h8, .inl (by omega), hfrom, h.val⟩

end Sweep

end Cert.KernelIdeal.Seg
-- ==== Proof.Value.lean ====
/-
  Hand-written. Over the extended reals: the accumulator after the last grid point holds, for each segment, the sum of the
  rectified affine images of its rows.
-/
module

public import proofs.«01_k».proof.Proof.Tile
public import proofs.«01_k».proof.Proof.Seen

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx
open scoped BigOperators

/-! ## One grid point -/

section Point
variable {I : Ins Ideal} {g : Fin 10} {s : Fin 10 → Fin 3200 → ℕ} (h : Seen I g s)
include h

/-- Every segment number of a sub-tile is at least its first window's start. -/
theorem base_le (n : Fin 10) (j : Fin 3200) : min (s n 0 / 8 * 8) 9872 ≤ s n j := by
  have := h.mono n 0 j (Fin.zero_le j)
  omega

/-- Every segment number of a sub-tile is at most its last. -/
theorem le_last (n : Fin 10) (j : Fin 3200) : s n j ≤ s n 3199 :=
  h.mono n j 3199 (by show j.val ≤ 3199; omega)

/-- A sub-tile's first window serves every segment below the window's end. -/
theorem plain_at (n : Fin 10) (X : Acc Ideal) (a : Fin 10000) (d : Fin 128) :
    (plain I g n X (ix2 a d) : EReal) = X (ix2 a d) + if a.val < min (s n 0 / 8 * 8) 9872 + 128 then tot (s n) (tileY I.x I.W I.b n) a.val d else 0 := by
  unfold plain
  rw [h.base]
  refine (winStep_at (min (s n 0 / 8 * 8) 9872) 0 (by omega) (s n) _
    (fun r j => (hit_at (s n) _ (h.ids n) (h.lt n) _ (by omega) r j).trans (by omega)) _ X a d).trans ?_
  refine congrArg (fun z : EReal => (X (ix2 a d) : EReal) + z) ?_
  by_cases h1 : min (s n 0 / 8 * 8) 9872 ≤ a.val
  · by_cases h2 : a.val < min (s n 0 / 8 * 8) 9872 + 128
    · rw [if_pos ⟨h1, h2, Nat.zero_le _⟩, if_pos h2]
    · rw [if_neg (by omega), if_neg h2]
  · rw [if_neg (by omega), if_pos (by omega)]
    exact (tot_none _ _ _ _ fun j hj => h1 ((base_le h n j).trans (Nat.le_of_eq hj))).symm

/-- The further windows of a sub-tile, after any number of them. -/
theorem sweeps_swept (n : Fin 10) (X : Acc Ideal) (k : ℕ) :
    ∃ l, Swept (s n) (tileY I.x I.W I.b n) (s n 3199) (min (s n 0 / 8 * 8) 9872 + 128) X k (sweeps I g n X k) l := by
  induction k with
  | zero =>
    refine ⟨min (s n 0 / 8 * 8) 9872 + 128, ?_, by omega, by omega, by omega, le_refl _, fun a d => ?_⟩
    · show Scalar.addi (baseW I.T g n) 128#32 = _
      rw [h.base, add128 _ (by omega)]
    · rw [if_neg (by omega), add_zero]
      rfl
  | succ k ih =>
    obtain ⟨l, hl⟩ := ih
    rw [sweeps_succ, h.last]
    exact sweep_swept (s n) _ _ (h.ids n) (h.lt n) _ _ (h.lt n _) X k _ l hl

/-- A sub-tile's further windows serve every segment past its first window. -/
theorem over_at (n : Fin 10) (X : Acc Ideal) (a : Fin 10000) (d : Fin 128) :
    (over I g n X (ix2 a d) : EReal) = X (ix2 a d) + if a.val < min (s n 0 / 8 * 8) 9872 + 128 then 0 else tot (s n) (tileY I.x I.W I.b n) a.val d := by
  have hlt := h.lt n 3199
  have hnone : s n 3199 < a.val → tot (s n) (tileY I.x I.W I.b n) a.val d = 0 := fun hl => tot_none _ _ _ _ fun j hj => by
    have := le_last h n j
    omega
  unfold over
  by_cases hc : min (s n 0 / 8 * 8) 9872 + 128 ≤ s n 3199
  · rw [if_pos (by rw [h.base, h.last]; exact (cond3_iff _ _ (by omega) hlt).mpr hc),
      show (k0_t2_loop (baseW I.T g n) (lastW I.T g n)).trips = (s n 3199 - min (s n 0 / 8 * 8) 9872) / 128 from by
        rw [h.base, h.last]; exact loop2_trips _ _ hlt hc]
    obtain ⟨l, hl⟩ := sweeps_swept h n X ((s n 3199 - min (s n 0 / 8 * 8) 9872) / 128)
    have hfar := hl.far
    rw [hl.val]
    refine congrArg (fun z : EReal => (X (ix2 a d) : EReal) + z) ?_
    by_cases h1 : a.val < min (s n 0 / 8 * 8) 9872 + 128
    · rw [if_pos h1, if_neg (by omega)]
    · rw [if_neg h1]
      by_cases h2 : a.val < l
      · rw [if_pos ⟨by omega, h2⟩]
      · rw [if_neg (by omega)]
        exact (hnone (by omega)).symm
  · rw [if_neg (by rw [h.base, h.last]; exact fun h' => hc ((cond3_iff _ _ (by omega) hlt).mp h'))]
    by_cases h1 : a.val < min (s n 0 / 8 * 8) 9872 + 128
    · rw [if_pos h1, add_zero]
    · rw [if_neg h1, hnone (by omega), add_zero]

end Point

/-- Steps that each add their own amount at an element add the sum there. -/
theorem runUpTo_sum (f : Fin 10 → Acc Ideal → Acc Ideal) (i : S10000x128.Idx) (t : Fin 10 → EReal)
    (hf : ∀ n X, (f n X i : EReal) = X i + t n) (X : Acc Ideal) : (runUpTo f 10 X i : EReal) = X i + ∑ n, t n := by
  have key : ∀ k : ℕ, (runUpTo f k X i : EReal) = X i + ∑ n ∈ Finset.range k, t (Fin.ofNat 10 n) := fun k => by
    induction k with
    | zero => rw [Finset.sum_range_zero, add_zero]; rfl
    | succ k ih =>
      rw [Finset.sum_range_succ, ← add_assoc, ← ih]
      exact hf _ _
  rw [key, Finset.sum_range]
  exact congrArg _ (Finset.sum_congr rfl fun n _ => congrArg t (Fin.ext (Nat.mod_eq_of_lt n.isLt)))

/-- Steps of which the first starts afresh and the others add: the sum, whatever was there. -/
theorem runUpTo_fresh (f : Fin 10 → Acc Ideal → Acc Ideal) (i : S10000x128.Idx) (t : Fin 10 → EReal)
    (h0 : ∀ X, (f 0 X i : EReal) = t 0) (hf : ∀ n, n ≠ 0 → ∀ X, (f n X i : EReal) = X i + t n) (X : Acc Ideal) : (runUpTo f 10 X i : EReal) = ∑ n, t n := by
  have key : ∀ k : ℕ, k < 10 → (runUpTo f (k + 1) X i : EReal) = ∑ n ∈ Finset.range (k + 1), t (Fin.ofNat 10 n) := fun k => by
    induction k with
    | zero => exact fun _ => (h0 X).trans (Finset.sum_range_one fun n => t (Fin.ofNat 10 n)).symm
    | succ k ih =>
      intro hk
      rw [Finset.sum_range_succ, ← ih (by omega)]
      refine hf _ (fun e => ?_) _
      have := congrArg Fin.val e
      change (k + 1) % 10 = 0 at this
      omega
  rw [key 9 (by omega), Finset.sum_range]
  exact Finset.sum_congr rfl fun n _ => congrArg t (Fin.ext (Nat.mod_eq_of_lt n.isLt))

/-- The first grid point starts from zeros. -/
theorem fresh_zero (X : Acc Ideal) (i : S10000x128.Idx) : (fresh 0 X i : EReal) = 0 := Ideal.ofBits_zero_f32

/-- The others from what is there. -/
theorem fresh_ne (g : Fin 10) (hg : g ≠ 0) (X : Acc Ideal) (i : S10000x128.Idx) : (fresh g X i : EReal) = X i := congrFun (if_neg hg) i

/-- A grid point adds to every segment all its rows of that segment. -/
theorem pointStep_at {I : Ins Ideal} {g : Fin 10} {s : Fin 10 → Fin 3200 → ℕ} (h : Seen I g s) (X : Acc Ideal) (a : Fin 10000) (d : Fin 128) :
    (pointStep I g X (ix2 a d) : EReal) = fresh g X (ix2 a d) + ∑ n, tot (s n) (tileY I.x I.W I.b n) a.val d := by
  have hp : (plains I g X (ix2 a d) : EReal) = _ := runUpTo_sum (plain I g) (ix2 a d) _ (fun n X => plain_at h n X a d) (fresh g X)
  unfold pointStep
  by_cases hc : flagW I.T g = 0#32
  · rw [if_neg (fun h' => (cond2_iff _).mp h' hc), hp]
    refine congrArg (fun z : EReal => (fresh g X (ix2 a d) : EReal) + z) (Finset.sum_congr rfl fun n _ => ?_)
    by_cases h1 : a.val < min (s n 0 / 8 * 8) 9872 + 128
    · rw [if_pos h1]
    · rw [if_neg h1]
      refine (tot_none _ _ _ _ fun j hj => ?_).symm
      have := h.flag hc n
      have := le_last h n j
      omega
  · rw [if_pos ((cond2_iff _).mpr hc)]
    refine (runUpTo_sum (over I g) (ix2 a d) _ (fun n X => over_at h n X a d) _).trans ?_
    rw [hp, add_assoc, ← Finset.sum_add_distrib]
    refine congrArg (fun z : EReal => (fresh g X (ix2 a d) : EReal) + z) (Finset.sum_congr rfl fun n _ => ?_)
    by_cases h1 : a.val < min (s n 0 / 8 * 8) 9872 + 128
    · rw [if_pos h1, if_pos h1, add_zero]
    · rw [if_neg h1, if_neg h1, zero_add]

/-! ## All of them -/

/-- The rectified affine image of row `r`, in column `d`. -/
def image (x : S320000x128.Idx → EReal) (W : S128x128.Idx → EReal) (b : S128.Idx → EReal) (r : Fin 320000) (d : Fin 128) : EReal :=
  max ((∑ k : Fin 128, x (ix2 r k) * W (ix2 d k)) + b (ix1 d)) 0

/-- The sum of the rectified affine images of the rows of segment `a`. -/
def total (x : S320000x128.Idx → EReal) (ids : IVec S320000 32) (W : S128x128.Idx → EReal) (b : S128.Idx → EReal) (a : Fin 10000) (d : Fin 128) : EReal :=
  ∑ r : Fin 320000, if seg ids r = a.val then image x W b r d else 0

/-- A sub-tile's rows times the weights, plus the bias, rectified, at one element. -/
theorem pay1_at (W : Vec Ideal S128x128 .f32) (b : Vec Ideal S1x128 .f32) (x : Vec Ideal S3200x128 .f32) (j : Fin 3200) (d : Fin 128) :
    (k0_pay1 W (k0_pay8 b) x (ix2 j d) : EReal) = max ((∑ k : Fin 128, (x (ix2 j k) : EReal) * W (ix2 d k)) + b (ix2 0 d)) 0 := by
  have e1 := Ideal.matmul_transposedRhs_apply (M := 3200) (K := 128) (N := 128) (φ₁ := .f32) (φ₂ := .f32) none x W (constant S3200x128 .f32 0x00000000#32) j d
  have e2 : broadcastTo S3200x128 (k0_pay8 b) broadcasts_S1x128_S3200x128 (ix2 j d) = b (ix2 0 d) :=
    (broadcastTo_apply _ _ _ (ix2 0 d) (fun q => by match q with | 0 => rfl | 1 => rfl)).trans (by unfold k0_pay8; rw [shapeCast_self])
  have z : (constant (F := Ideal) S3200x128 .f32 0x00000000#32 (ix2 j d) : EReal) = 0 := Ideal.ofBits_zero_f32
  rw [z, zero_add] at e1
  unfold k0_pay1
  refine (congrArg₂ (fun u v : EReal => max u v) (congrArg₂ (fun u v : EReal => u + v) e1 e2) (Ideal.ofBits_zero_f32 : Ideal.ofBits .f32 0x00000000#32 = 0))

/-- The rows, sub-tile by sub-tile of each grid point, are all the rows. -/
theorem sum_rows (f : Fin 320000 → EReal) : (∑ g : Fin 10, ∑ n : Fin 10, ∑ j : Fin 3200, f (rowOf g n j)) = ∑ r, f r := by
  have hb : Function.Bijective (fun p : Fin 10 × Fin 10 × Fin 3200 => rowOf p.1 p.2.1 p.2.2) := by
    refine ⟨fun p q e => ?_, fun r => ⟨(⟨r.val / 32000, by omega⟩, ⟨r.val / 3200 % 10, by omega⟩, ⟨r.val % 3200, by omega⟩), Fin.ext ?_⟩⟩
    · have e' : (10 * p.1.val + p.2.1.val) * 3200 + p.2.2.val = (10 * q.1.val + q.2.1.val) * 3200 + q.2.2.val := congrArg Fin.val e
      exact Prod.ext (Fin.ext (by omega)) (Prod.ext (Fin.ext (by omega)) (Fin.ext (by omega)))
    · show (10 * (r.val / 32000) + r.val / 3200 % 10) * 3200 + r.val % 3200 = r.val
      omega
  rw [← Fintype.sum_bijective _ hb (fun p => f (rowOf p.1 p.2.1 p.2.2)) f (fun _ => rfl), Fintype.sum_prod_type]
  exact Finset.sum_congr rfl fun g _ => (Fintype.sum_prod_type (fun q : Fin 10 × Fin 3200 => f (rowOf g q.1 q.2))).symm

section Whole
variable (m : (ℓ : Loc nD τ sig) → Buf (Elt Ideal) ℓ) (c : Dev nD)

/-- What one sub-tile adds to segment `a`, in the arguments. -/
theorem tot_at (g n : Fin 10) (a : Fin 10000) (d : Fin 128) :
    tot (fun j => seg (m ((c : Thread nD τ).loc main_arg1)) (rowOf g n j))
        (tileY (insAt c (found m c) (pt g)).x (insAt c (found m c) (pt g)).W (insAt c (found m c) (pt g)).b n) a.val d
      = ∑ j, if seg (m ((c : Thread nD τ).loc main_arg1)) (rowOf g n j) = a.val then
          image (m ((c : Thread nD τ).loc main_arg0)) (m ((c : Thread nD τ).loc main_arg2)) (m ((c : Thread nD τ).loc main_arg3)) (rowOf g n j) d else 0 := by
  unfold tot
  refine Finset.sum_congr rfl fun j _ => ?_
  have e : (tileY (insAt c (found m c) (pt g)).x (insAt c (found m c) (pt g)).W (insAt c (found m c) (pt g)).b n (ix2 j d) : EReal)
      = image (m ((c : Thread nD τ).loc main_arg0)) (m ((c : Thread nD τ).loc main_arg2)) (m ((c : Thread nD τ).loc main_arg3)) (rowOf g n j) d := by
    unfold tileY
    refine (pay1_at _ _ _ _ _).trans ?_
    unfold image
    have eb : found m c main_v19 (ix2 0 d) = m ((c : Thread nD τ).loc main_arg3) (ix1 d) := by
      rw [found_bias]
      exact shapeCast_apply _ _ _ (ix1 d) (by rw [Shape.rowMajor_val_two, Shape.rowMajor_val_one]; simp)
    rw [W_at, b_at, eb, found_kept m c main_arg2 (by decide)]
    refine congrArg (fun z : EReal => max (z + _) 0) (Finset.sum_congr rfl fun k _ => ?_)
    rw [x_at, found_kept m c main_arg0 (by decide)]
  rw [e]

/-- After the last grid point the accumulator holds the segments' sums. -/
theorem outAt_at (h : Sorted (m ((c : Thread nD τ).loc main_arg1))) (a : Fin 10000) (d : Fin 128) :
    (outAt c (found m c) 10 (ix2 a d) : EReal)
      = total (m ((c : Thread nD τ).loc main_arg0)) (m ((c : Thread nD τ).loc main_arg1)) (m ((c : Thread nD τ).loc main_arg2)) (m ((c : Thread nD τ).loc main_arg3)) a d := by
  let t : Fin 10 → EReal := fun g => ∑ n : Fin 10, ∑ j : Fin 3200, if seg (m ((c : Thread nD τ).loc main_arg1)) (rowOf g n j) = a.val then
          image (m ((c : Thread nD τ).loc main_arg0)) (m ((c : Thread nD τ).loc main_arg2)) (m ((c : Thread nD τ).loc main_arg3)) (rowOf g n j) d else 0
  have step : ∀ (g : Fin 10) (X : Acc Ideal), (pointStep (insAt c (found m c) (pt g)) g X (ix2 a d) : EReal) = fresh g X (ix2 a d) + t g := fun g X =>
    (pointStep_at (seen m c h g) X a d).trans (congrArg (fun z : EReal => (fresh g X (ix2 a d) : EReal) + z) (Finset.sum_congr rfl fun n _ => tot_at m c g n a d))
  have s0 : ∀ X : Acc Ideal, (pointStep (insAt c (found m c) (pt 0)) 0 X (ix2 a d) : EReal) = t 0 := fun X => by rw [step, fresh_zero, zero_add]
  have s1 : ∀ g : Fin 10, g ≠ 0 → ∀ X : Acc Ideal, (pointStep (insAt c (found m c) (pt g)) g X (ix2 a d) : EReal) = X (ix2 a d) + t g := fun g hg X => by
    rw [step, fresh_ne g hg]
  have e := runUpTo_fresh (fun g X => pointStep (insAt c (found m c) (pt g)) g X) (ix2 a d) t s0 s1 (found m c main_v20)
  refine Eq.trans e ?_
  exact sum_rows fun r => if seg (m ((c : Thread nD τ).loc main_arg1)) r = a.val then
    image (m ((c : Thread nD τ).loc main_arg0)) (m ((c : Thread nD τ).loc main_arg2)) (m ((c : Thread nD τ).loc main_arg3)) r d else 0

end Whole

end Cert.KernelIdeal.Seg
-- ==== Proof.Ref.lean ====
/-
  Hand-written. The reference's scatter over the extended reals: at each segment, the sum of the rectified affine images of
  its rows.
-/
module

public import proofs.«01_k».proof.Proof.Value
public import proofs.«01_k».proof.Proof.Gen.ReferenceIdeal.Run
public import Idealize.ShloMosaic.Lib.StackMember
public import Idealize.ShloMosaic.Lib.Routing.OpsPair

@[expose] public section

set_option maxRecDepth 16384

noncomputable section

namespace Cert.ReferenceIdeal.Seg

open Cert.ReferenceIdeal Cert.ReferenceIdeal.Gen
open Idealize.ShloMosaic Idealize.ShloMosaic.ValueIdx
open Cert.KernelIdeal.Seg (seg Sorted image total)
open scoped BigOperators

/-- An update's start on the first axis is its row's segment word. -/
theorem start_row (idx : IVec S320000x1 32) (r : Fin 320000) (e : Fin 128) :
    scatter_S10000x128_S320000x1_S320000x128_1_0_0_1.start (ix2 r e) idx 0 = (idx (ix2 r 0)).toInt := by
  unfold ScatterDims.start
  refine (dif_pos (show (0 : Fin 2) ∈ [(0 : Fin 2)] from List.mem_singleton.mpr rfl)).trans ?_
  refine congrArg (fun i => (idx i).toInt) (funext fun q => Fin.ext ?_)
  match q with
  | 0 => rfl
  | 1 => rfl

/-- Its start on the second axis is 0. -/
theorem start_col (idx : IVec S320000x1 32) (r : Fin 320000) (e : Fin 128) :
    scatter_S10000x128_S320000x1_S320000x128_1_0_0_1.start (ix2 r e) idx 1 = 0 := rfl

/-- Its place in the window on the first axis is 0. -/
theorem window_row (r : Fin 320000) (e : Fin 128) :
    scatter_S10000x128_S320000x1_S320000x128_1_0_0_1.window (ix2 r e) 0 = 0 := rfl

/-- Its place in the window on the second axis is its column. -/
theorem window_col (r : Fin 320000) (e : Fin 128) :
    scatter_S10000x128_S320000x1_S320000x128_1_0_0_1.window (ix2 r e) 1 = e.val := rfl

/-- Where an update lands: on its row's segment, in its own column. -/
theorem lands (idx : IVec S320000x1 32) (r : Fin 320000) (e : Fin 128) (a : Fin 10000) (d : Fin 128) :
    scatter_S10000x128_S320000x1_S320000x128_1_0_0_1.resultIdx? (ix2 r e) idx = some (ix2 a d) ↔ (idx (ix2 r 0)).toInt = a.val ∧ e = d := by
  rw [Routing.resultIdx?_eq_some]
  have key : ∀ q, scatter_S10000x128_S320000x1_S320000x128_1_0_0_1.start (ix2 r e) idx q + (scatter_S10000x128_S320000x1_S320000x128_1_0_0_1.window (ix2 r e) q : ℤ)
      = (![(idx (ix2 r 0)).toInt, (e.val : ℤ)] : Fin 2 → ℤ) q := fun q => by
    match q with
    | 0 => exact (congrArg₂ (· + ·) (start_row idx r e) (congrArg Nat.cast (window_row r e))).trans (add_zero _)
    | 1 => exact (congrArg₂ (· + ·) (start_col idx r e) (congrArg Nat.cast (window_col r e))).trans (zero_add _)
  constructor
  · intro h
    exact ⟨(key 0).symm.trans (h 0), Fin.ext (Int.ofNat.inj ((key 1).symm.trans (h 1)))⟩
  · rintro ⟨h0, rfl⟩ q
    rw [key q]
    match q with
    | 0 => exact h0
    | 1 => rfl

/-- A scatter that adds, at one element: what is there plus the rows of that segment. -/
theorem scatter_at (x : FVec Ideal S10000x128 .f32) (idx : IVec S320000x1 32) (upd : FVec Ideal S320000x128 .f32) (a : Fin 10000) (d : Fin 128) :
    (Host.scatterAdd scatter_S10000x128_S320000x1_S320000x128_1_0_0_1 x idx upd (ix2 a d) : EReal)
      = x (ix2 a d) + ∑ r : Fin 320000, if (idx (ix2 r 0)).toInt = a.val then (upd (ix2 r d) : EReal) else 0 := by
  show Ideal.hostScatterAdd _ x idx upd (ix2 a d) = _
  unfold Ideal.hostScatterAdd
  refine congrArg (fun z : EReal => (x (ix2 a d) : EReal) + z) ?_
  rw [← Finset.sum_filter]
  refine Finset.sum_bij' (fun i _ => (i 0 : Fin 320000)) (fun r _ => ix2 r d) ?_ ?_ ?_ ?_ ?_
  · intro i hi
    have h := (Finset.mem_filter.mp hi).2
    rw [eq_ix2 i] at h
    exact Finset.mem_filter.mpr ⟨Finset.mem_univ _, ((lands idx _ _ a d).mp h).1⟩
  · intro r hr
    exact Finset.mem_filter.mpr ⟨Finset.mem_univ _, (lands idx r d a d).mpr ⟨(Finset.mem_filter.mp hr).2, rfl⟩⟩
  · intro i hi
    have h := (Finset.mem_filter.mp hi).2
    rw [eq_ix2 i] at h
    rw [← ((lands idx _ _ a d).mp h).2]
    exact (eq_ix2 i).symm
  · intro r _
    rfl
  · intro i hi
    have h := (Finset.mem_filter.mp hi).2
    rw [eq_ix2 i] at h
    rw [← ((lands idx _ _ a d).mp h).2]
    exact congrArg upd (eq_ix2 i)

/-- The rectified affine image as the reference computes it, at one element. -/
theorem image_at (x : FVec Ideal S320000x128 .f32) (W : FVec Ideal S128x128 .f32) (b : FVec Ideal S128 .f32) (r : Fin 320000) (d : Fin 128) :
    (maximumf (addf (Host.dotGeneral dot_S320000x128_S128x128_S320000x128_1_0_0_1_n_n none x (transpose S128x128 [1, 0] W transposes_S128x128_S128x128_1_0))
        (broadcastInDim S320000x128 ![0, 1] bcast_S1x128_S320000x128_0_1 (broadcastInDim S1x128 ![1] bcast_S128_S1x128_1 b)))
      (broadcastInDim S320000x128 ![] bcast_S_S320000x128 (constant S_ .f32 0x00000000#32)) (ix2 r d) : EReal) = image x W b r d := by
  have e1 : (Host.dotGeneral dot_S320000x128_S128x128_S320000x128_1_0_0_1_n_n none x (transpose S128x128 [1, 0] W transposes_S128x128_S128x128_1_0) (ix2 r d) : EReal)
      = ∑ k : Fin 128, (x (ix2 r k) : EReal) * W (ix2 d k) := by
    refine (StackMember.dotGeneral_plain_apply (m := 320000) (k := 128) (n := 128) (φ₁ := .f32) (φ₂ := .f32) none x _ r d).trans (Finset.sum_congr rfl fun k _ => ?_)
    refine congrArg (fun z : EReal => (x (ix2 r k) : EReal) * z) (congrArg W (funext fun q => Fin.ext ?_))
    match q with
    | 0 => rfl
    | 1 => rfl
  have e2 : broadcastInDim S320000x128 ![0, 1] bcast_S1x128_S320000x128_0_1 (broadcastInDim S1x128 ![1] bcast_S128_S1x128_1 b) (ix2 r d) = b (ix1 d) :=
    (broadcastInDim_apply _ _ _ _ (ix2 0 d) fun q => by match q with | 0 => rfl | 1 => rfl).trans
      (broadcastInDim_apply _ _ _ _ (ix1 d) fun q => by match q with | 0 => rfl)
  exact congrArg₂ (fun u v : EReal => max u v) (congrArg₂ (fun u v : EReal => u + v) e1 e2) (Ideal.ofBits_zero_f32 : Ideal.ofBits .f32 0x00000000#32 = 0)

/-- The reference's result, at one element: the sum over the segment's rows. -/
theorem result_at (x : FVec Ideal S320000x128 .f32) (ids : IVec S320000 32) (W : FVec Ideal S128x128 .f32) (b : FVec Ideal S128 .f32) (h : Sorted ids) (a : Fin 10000) (d : Fin 128) :
    (Host.scatterAdd scatter_S10000x128_S320000x1_S320000x128_1_0_0_1 (broadcastInDim S10000x128 ![] bcast_S_S10000x128 (constant S_ .f32 0x00000000#32))
      (broadcastInDim S320000x1 ![0] bcast_S320000_S320000x1_0 ids)
      (maximumf (addf (Host.dotGeneral dot_S320000x128_S128x128_S320000x128_1_0_0_1_n_n none x (transpose S128x128 [1, 0] W transposes_S128x128_S128x128_1_0))
        (broadcastInDim S320000x128 ![0, 1] bcast_S1x128_S320000x128_0_1 (broadcastInDim S1x128 ![1] bcast_S128_S1x128_1 b)))
        (broadcastInDim S320000x128 ![] bcast_S_S320000x128 (constant S_ .f32 0x00000000#32))) (ix2 a d) : EReal) = total x ids W b a d := by
  refine (scatter_at _ _ _ a d).trans ?_
  have z : (broadcastInDim S10000x128 ![] bcast_S_S10000x128 (constant (F := Ideal) S_ .f32 0x00000000#32) (ix2 a d) : EReal) = 0 := Ideal.ofBits_zero_f32
  rw [z, zero_add]
  unfold total
  refine Finset.sum_congr rfl fun r _ => ?_
  have ei : broadcastInDim S320000x1 ![0] bcast_S320000_S320000x1_0 ids (ix2 r 0) = BitVec.ofNat 32 (seg ids r) :=
    (broadcastInDim_apply _ _ _ _ (ix1 r) fun q => by match q with | 0 => rfl).trans (h.word r)
  have hlt := h.lt r
  have hc : (broadcastInDim S320000x1 ![0] bcast_S320000_S320000x1_0 ids (ix2 r 0)).toInt = ((a.val : ℕ) : ℤ) ↔ seg ids r = a.val := by
    rw [ei, Cert.KernelIdeal.Seg.toInt_small _ (by omega)]
    omega
  by_cases hs : seg ids r = a.val
  · rw [if_pos (hc.mpr hs), if_pos hs]
    exact image_at x W b r d
  · rw [if_neg fun h' => hs (hc.mp h'), if_neg hs]

end Cert.ReferenceIdeal.Seg
-- ==== Proof.Equal.lean ====
/-
  Hand-written. The kernel against the reference over the extended reals: from equal arguments with sorted segment numbers,
  both end with the segments' sums.
-/
module

public import proofs.«01_k».proof.Proof.Frames
public import proofs.«01_k».proof.Proof.Ref

@[expose] public section

set_option maxRecDepth 16384

noncomputable section

namespace Cert.Proof

open Idealize.ShloMosaic Idealize.SL.Sem Idealize.ShloMosaic.ValueIdx

/-- From equal arguments with sorted segment numbers, the kernel's result is the reference's. -/
theorem equal [Cert.Pre_sorted_ids.Facts] : Cert.algebraic_KernelIdeal_ReferenceIdeal := fun m g m' g' hpre hag =>
  ⟨fun c => Cert.KernelIdeal.Seg.outAt c (Cert.KernelIdeal.Seg.found m c) 10,
    (θ_run (Cert.KernelIdeal.defs (F := Ideal)) _ _).mono (fun _ hr c => hr.1 c)
      (Cert.KernelIdeal.Seg.run (F := Ideal) m g fun c i => (Cert.KernelIdeal.Seg.seen m c (sorted_i m hpre c) i).sound),
    (θ_run (Cert.ReferenceIdeal.defs (F := Ideal)) _ _).mono (fun _ hr c => ⟨(hr c).1.trans (by
        obtain ⟨h0, h1, h2, h3⟩ := hag c
        rw [h0, h1, h2, h3]
        funext i
        obtain ⟨a, d, rfl⟩ : ∃ (a : Fin 10000) (d : Fin 128), i = ix2 a d := ⟨i 0, i 1, eq_ix2 i⟩
        exact (Cert.ReferenceIdeal.Seg.result_at _ _ _ _ (sorted_i m hpre c) a d).trans
          (Cert.KernelIdeal.Seg.outAt_at m c (sorted_i m hpre c) a d).symm), (hr c).2⟩)
      (Cert.ReferenceIdeal.Value.run (F := Ideal) m' g')⟩

end Cert.Proof
-- ==== Proof.lean ====
/-
  Hand-written. The certificate's claims, put together.
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_sorted_ids

@[expose] public section

/-- Every claim of this certificate. -/
theorem Cert.Proof.claim : Cert.Claim :=
  ⟨Cert.Kernel.Gen.facts, Cert.KernelIdeal.Gen.facts, Cert.ReferenceIdeal.Gen.facts, Cert.Pre_sorted_ids.Gen.facts,
    Cert.Proof.frame_k, Cert.Proof.frame_i, Cert.Proof.frame_r, fun m g _ => Cert.Proof.frame_r m g trivial, trivial, Cert.Proof.equal⟩
